-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_is_permutation [hPre_is_permutation : Cert.Pre_is_permutation.Facts] (m : (ℓ : Loc Cert.KernelIdeal.nD Cert.KernelIdeal.τ Cert.KernelIdeal.sig) → Buf (Elt Ideal) ℓ) : Prop :=
  ∀ c : Dev Cert.KernelIdeal.nD,
    (Cert.Pre_is_permutation.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_is_permutation [hPre_is_permutation : Cert.Pre_is_permutation.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_is_permutation.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_is_permutation [hKernelIdeal : Cert.KernelIdeal.Facts] [hPre_is_permutation : Cert.Pre_is_permutation.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_is_permutation m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_is_permutation [hReferenceIdeal : Cert.ReferenceIdeal.Facts] [hPre_is_permutation : Cert.Pre_is_permutation.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_is_permutation m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_dh" .f32 0x3C2AAAAB#32 ((1 / 96 : ℝ) : EReal)
  ∧ IdealRules.named_const.Statement Cert.KernelIdeal.κ "log2_e" .f32 0x3FB8AA3B#32 (((Real.log 2)⁻¹ : ℝ) : EReal)
  ∧ IdealRules.named_const.Statement Cert.KernelIdeal.κ "bucket_mask" .f32 0xCEABFB8F#32 ⊥
  ∧ IdealRules.named_const.Statement Cert.KernelIdeal.κ "self_mask" .f32 0xC80CE360#32 (((-100000) * (Real.log 2)⁻¹ : ℝ) : EReal)

def algebraic_KernelIdeal_ReferenceIdeal_pre_is_permutation [hKernelIdeal : Cert.KernelIdeal.Facts] [hReferenceIdeal : Cert.ReferenceIdeal.Facts] [hPre_is_permutation : Cert.Pre_is_permutation.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_is_permutation m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_is_permutation : Cert.Pre_is_permutation.Facts),
    quiescent_Kernel (hKernel := hKernel)
    ∧ quiescent_KernelIdeal (hKernelIdeal := hKernelIdeal)
    ∧ quiescent_KernelIdeal_pre_is_permutation (hKernelIdeal := hKernelIdeal) (hPre_is_permutation := hPre_is_permutation)
    ∧ quiescent_ReferenceIdeal (hReferenceIdeal := hReferenceIdeal)
    ∧ quiescent_ReferenceIdeal_pre_is_permutation (hReferenceIdeal := hReferenceIdeal) (hPre_is_permutation := hPre_is_permutation)
    ∧ preserves_Kernel_KernelIdeal
    ∧ algebraic_KernelIdeal_ReferenceIdeal_pre_is_permutation (hKernelIdeal := hKernelIdeal) (hReferenceIdeal := hReferenceIdeal) (hPre_is_permutation := hPre_is_permutation)
-- ==== Pre_is_permutation.lean ====
abbrev S4x512x40x96 : Shape := ⟨4, ![4, 512, 40, 96]⟩
abbrev S4x512x40 : Shape := ⟨3, ![4, 512, 40]⟩
abbrev S4x40x512 : Shape := ⟨3, ![4, 40, 512]⟩

class Facts : Prop where

variable [Facts]

def comparator_i32_d2 : BitVec 32 → BitVec 32 → BitVec 1 :=
  fun l r =>
    let v1 := IntOp.cmpi .slt l r
    v1
def fn_sort {F : FTy → Type} [FloatOps F] (arg0 : IVec S4x40x512 32) : IVec S4x40x512 32 :=
  let v0 : IVec S4x40x512 32 := (fun x => Host.sort S4x40x512 2 comparator_i32_d2 x) arg0
  v0

def fn {F : FTy → Type} [FloatOps F] (main_arg0 : FVec F S4x512x40x96 .fp8e4m3) (main_arg1 : FVec F S4x512x40 .f32) (main_arg2 : FVec F S4x512x40x96 .fp8e4m3) (main_arg3 : FVec F S4x512x40 .f32) (main_arg4 : IVec S4x40x512 32) (main_arg5 : IVec S4x40x512 32) : IVec S4x40x512 1 :=
  let main_v0 : IVec S4x40x512 32 := fn_sort (F := F) main_arg5
  let main_v1 : IVec S4x40x512 32 := iotaInDim S4x40x512 32 2
  let main_v2 : IVec S4x40x512 1 := cmpi .eq main_v0 main_v1
  main_v2
-- ==== Kernel.lean ====
abbrev S4x512x40x96 : Shape := ⟨4, ![4, 512, 40, 96]⟩
abbrev S4x512x40 : Shape := ⟨3, ![4, 512, 40]⟩
abbrev S4x40x512 : Shape := ⟨3, ![4, 40, 512]⟩
abbrev S4x40x96x512 : Shape := ⟨4, ![4, 40, 96, 512]⟩
abbrev S4x512x3840 : Shape := ⟨3, ![4, 512, 3840]⟩
abbrev S1x8x96x512 : Shape := ⟨4, ![1, 8, 96, 512]⟩
abbrev S1x8x512 : Shape := ⟨3, ![1, 8, 512]⟩
abbrev S1x512x768 : Shape := ⟨3, ![1, 512, 768]⟩
abbrev S768x512 : Shape := ⟨2, ![768, 512]⟩
abbrev S8x512 : Shape := ⟨2, ![8, 512]⟩
abbrev S8x128 : Shape := ⟨2, ![8, 128]⟩
abbrev S1x1x96x512 : Shape := ⟨4, ![1, 1, 96, 512]⟩
abbrev S96x512 : Shape := ⟨2, ![96, 512]⟩
abbrev S512 : Shape := ⟨1, ![512]⟩
abbrev S1x512 : Shape := ⟨2, ![1, 512]⟩
abbrev S8x128x1 : Shape := ⟨3, ![8, 128, 1]⟩
abbrev S512x8 : Shape := ⟨2, ![512, 8]⟩
abbrev S128x512 : Shape := ⟨2, ![128, 512]⟩
abbrev S1x128 : Shape := ⟨2, ![1, 128]⟩
abbrev S128x128 : Shape := ⟨2, ![128, 128]⟩
abbrev S256x128 : Shape := ⟨2, ![256, 128]⟩
abbrev S512x512 : Shape := ⟨2, ![512, 512]⟩
abbrev S192x512 : Shape := ⟨2, ![192, 512]⟩
abbrev S512x96 : Shape := ⟨2, ![512, 96]⟩
abbrev S64x96 : Shape := ⟨2, ![64, 96]⟩
abbrev S128x96 : Shape := ⟨2, ![128, 96]⟩
abbrev S256x96 : Shape := ⟨2, ![256, 96]⟩
abbrev S96x128 : Shape := ⟨2, ![96, 128]⟩
abbrev S512x1 : Shape := ⟨2, ![512, 1]⟩
abbrev S64x1 : Shape := ⟨2, ![64, 1]⟩
abbrev S128x1 : Shape := ⟨2, ![128, 1]⟩
abbrev S256x1 : Shape := ⟨2, ![256, 1]⟩
abbrev S128 : Shape := ⟨1, ![128]⟩
abbrev S96x256 : Shape := ⟨2, ![96, 256]⟩
abbrev S512x768 : Shape := ⟨2, ![512, 768]⟩

abbrev nBuf : Space → Nat
  | .hbm => 11
  | .vmem => 15
  | .smem => 0
  | _ => 0

abbrev bufTy : (tb : Table) → Fin (tcTables nBuf tb) → BufTy
  | .hbm, ⟨0, _⟩ => ⟨S4x512x40x96, .fp8e4m3⟩
  | .hbm, ⟨1, _⟩ => ⟨S4x512x40, .f32⟩
  | .hbm, ⟨2, _⟩ => ⟨S4x512x40x96, .fp8e4m3⟩
  | .hbm, ⟨3, _⟩ => ⟨S4x512x40, .f32⟩
  | .hbm, ⟨4, _⟩ => ⟨S4x40x512, .i32⟩
  | .hbm, ⟨5, _⟩ => ⟨S4x40x512, .i32⟩
  | .hbm, ⟨6, _⟩ => ⟨S4x40x96x512, .fp8e4m3⟩
  | .hbm, ⟨7, _⟩ => ⟨S4x40x96x512, .fp8e4m3⟩
  | .hbm, ⟨8, _⟩ => ⟨S4x40x512, .f32⟩
  | .hbm, ⟨9, _⟩ => ⟨S4x40x512, .f32⟩
  | .hbm, ⟨10, _⟩ => ⟨S4x512x3840, .bf16⟩
  | .local _ .vmem, ⟨0, _⟩ => ⟨S1x8x96x512, .fp8e4m3⟩
  | .local _ .vmem, ⟨1, _⟩ => ⟨S1x8x96x512, .fp8e4m3⟩
  | .local _ .vmem, ⟨2, _⟩ => ⟨S1x8x96x512, .fp8e4m3⟩
  | .local _ .vmem, ⟨3, _⟩ => ⟨S1x8x96x512, .fp8e4m3⟩
  | .local _ .vmem, ⟨4, _⟩ => ⟨S1x8x512, .f32⟩
  | .local _ .vmem, ⟨5, _⟩ => ⟨S1x8x512, .f32⟩
  | .local _ .vmem, ⟨6, _⟩ => ⟨S1x8x512, .f32⟩
  | .local _ .vmem, ⟨7, _⟩ => ⟨S1x8x512, .f32⟩
  | .local _ .vmem, ⟨8, _⟩ => ⟨S1x8x512, .i32⟩
  | .local _ .vmem, ⟨9, _⟩ => ⟨S1x8x512, .i32⟩
  | .local _ .vmem, ⟨10, _⟩ => ⟨S1x8x512, .i32⟩
  | .local _ .vmem, ⟨11, _⟩ => ⟨S1x8x512, .i32⟩
  | .local _ .vmem, ⟨12, _⟩ => ⟨S1x512x768, .bf16⟩
  | .local _ .vmem, ⟨13, _⟩ => ⟨S1x512x768, .bf16⟩
  | .local _ .vmem, ⟨14, _⟩ => ⟨S768x512, .bf16⟩
  | _, _ => ⟨S4x512x40x96, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 5], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x8x96x512 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x96x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "bucket_mask" => some ⊥
  | "inv_dh" => some ((1 / 96 : ℝ) : EReal)
  | "log2_e" => some (((Real.log 2)⁻¹ : ℝ) : EReal)
  | "self_mask" => some (((-100000) * (Real.log 2)⁻¹ : ℝ) : EReal)
  | _ => none
-- ==== ReferenceIdeal.lean ====
abbrev S4x512x40x96 : Shape := ⟨4, ![4, 512, 40, 96]⟩
abbrev S4x512x40 : Shape := ⟨3, ![4, 512, 40]⟩
abbrev S4x40x512 : Shape := ⟨3, ![4, 40, 512]⟩
abbrev S4x40x512x96 : Shape := ⟨4, ![4, 40, 512, 96]⟩
abbrev S4x40x512x1 : Shape := ⟨4, ![4, 40, 512, 1]⟩
abbrev S_ : Shape := ⟨0, ![]⟩
abbrev S4x40x8x64x96 : Shape := ⟨5, ![4, 40, 8, 64, 96]⟩
abbrev S4x40x8x64 : Shape := ⟨4, ![4, 40, 8, 64]⟩
abbrev S1280x64x96 : Shape := ⟨3, ![1280, 64, 96]⟩
abbrev S4x40x1x64x96 : Shape := ⟨5, ![4, 40, 1, 64, 96]⟩
abbrev S4x40x7x64x96 : Shape := ⟨5, ![4, 40, 7, 64, 96]⟩
abbrev S4x40x8x192x96 : Shape := ⟨5, ![4, 40, 8, 192, 96]⟩
abbrev S1280x192x96 : Shape := ⟨3, ![1280, 192, 96]⟩
abbrev S1280x64 : Shape := ⟨2, ![1280, 64]⟩
abbrev S4x40x1x64 : Shape := ⟨4, ![4, 40, 1, 64]⟩
abbrev S4x40x7x64 : Shape := ⟨4, ![4, 40, 7, 64]⟩
abbrev S4x40x8x192 : Shape := ⟨4, ![4, 40, 8, 192]⟩
abbrev S1280x192 : Shape := ⟨2, ![1280, 192]⟩
abbrev S1280x64x192 : Shape := ⟨3, ![1280, 64, 192]⟩
abbrev S1280x64x1 : Shape := ⟨3, ![1280, 64, 1]⟩
abbrev S1280x1x192 : Shape := ⟨3, ![1280, 1, 192]⟩
abbrev S4 : Shape := ⟨1, ![4]⟩
abbrev S4x1x1 : Shape := ⟨3, ![4, 1, 1]⟩
abbrev S40 : Shape := ⟨1, ![40]⟩
abbrev S1x40x1 : Shape := ⟨3, ![1, 40, 1]⟩
abbrev S4x40x512x3 : Shape := ⟨4, ![4, 40, 512, 3]⟩
abbrev S4x512x3840 : Shape := ⟨3, ![4, 512, 3840]⟩

abbrev nBuf : Space → Nat
  | .hbm => 150
  | .vmem => 11
  | .smem => 0
  | _ => 0

abbrev hbmTy0_0 (i : Nat) : BufTy := match i % 128 with
  | 0 => ⟨S4x512x40x96, .fp8e4m3⟩
  | 1 => ⟨S4x512x40, .f32⟩
  | 2 => ⟨S4x512x40x96, .fp8e4m3⟩
  | 3 => ⟨S4x512x40, .f32⟩
  | 4 => ⟨S4x40x512, .i32⟩
  | 5 => ⟨S4x40x512, .i32⟩
  | 6 => ⟨S4x40x512x96, .fp8e4m3⟩
  | 7 => ⟨S4x40x512x96, .fp8e4m3⟩
  | 8 => ⟨S4x40x512, .f32⟩
  | 9 => ⟨S4x40x512, .f32⟩
  | 10 => ⟨S4x40x512x1, .i32⟩
  | 11 => ⟨S_, .i32⟩
  | 12 => ⟨S4x40x512x1, .i32⟩
  | 13 => ⟨S4x40x512x1, .i1⟩
  | 14 => ⟨S_, .i32⟩
  | 15 => ⟨S4x40x512x1, .i32⟩
  | 16 => ⟨S4x40x512x1, .i32⟩
  | 17 => ⟨S4x40x512x1, .i32⟩
  | 18 => ⟨S4x40x512x96, .fp8e4m3⟩
  | 19 => ⟨S4x40x8x64x96, .fp8e4m3⟩
  | 20 => ⟨S_, .i32⟩
  | 21 => ⟨S4x40x512x1, .i32⟩
  | 22 => ⟨S4x40x512x1, .i1⟩
  | 23 => ⟨S_, .i32⟩
  | 24 => ⟨S4x40x512x1, .i32⟩
  | 25 => ⟨S4x40x512x1, .i32⟩
  | 26 => ⟨S4x40x512x1, .i32⟩
  | 27 => ⟨S4x40x512x96, .fp8e4m3⟩
  | 28 => ⟨S4x40x8x64x96, .fp8e4m3⟩
  | 29 => ⟨S_, .i32⟩
  | 30 => ⟨S4x40x512, .i32⟩
  | 31 => ⟨S4x40x512, .i1⟩
  | 32 => ⟨S_, .i32⟩
  | 33 => ⟨S4x40x512, .i32⟩
  | 34 => ⟨S4x40x512, .i32⟩
  | 35 => ⟨S4x40x512, .i32⟩
  | 36 => ⟨S4x40x512x1, .i32⟩
  | 37 => ⟨S4x40x512, .f32⟩
  | 38 => ⟨S4x40x8x64, .f32⟩
  | 39 => ⟨S_, .i32⟩
  | 40 => ⟨S4x40x512, .i32⟩
  | 41 => ⟨S4x40x512, .i1⟩
  | 42 => ⟨S_, .i32⟩
  | 43 => ⟨S4x40x512, .i32⟩
  | 44 => ⟨S4x40x512, .i32⟩
  | 45 => ⟨S4x40x512, .i32⟩
  | 46 => ⟨S4x40x512x1, .i32⟩
  | 47 => ⟨S4x40x512, .f32⟩
  | 48 => ⟨S4x40x8x64, .f32⟩
  | 49 => ⟨S_, .i32⟩
  | 50 => ⟨S4x40x512, .i32⟩
  | 51 => ⟨S4x40x512, .i1⟩
  | 52 => ⟨S_, .i32⟩
  | 53 => ⟨S4x40x512, .i32⟩
  | 54 => ⟨S4x40x512, .i32⟩
  | 55 => ⟨S4x40x512, .i32⟩
  | 56 => ⟨S4x40x512x1, .i32⟩
  | 57 => ⟨S4x40x512, .i32⟩
  | 58 => ⟨S4x40x8x64, .i32⟩
  | 59 => ⟨S4x40x8x64, .i32⟩
  | 60 => ⟨S1280x64x96, .fp8e4m3⟩
  | 61 => ⟨S4x40x1x64x96, .fp8e4m3⟩
  | 62 => ⟨S4x40x7x64x96, .fp8e4m3⟩
  | 63 => ⟨S4x40x8x64x96, .fp8e4m3⟩
  | 64 => ⟨S4x40x7x64x96, .fp8e4m3⟩
  | 65 => ⟨S4x40x1x64x96, .fp8e4m3⟩
  | 66 => ⟨S4x40x8x64x96, .fp8e4m3⟩
  | 67 => ⟨S4x40x8x192x96, .fp8e4m3⟩
  | 68 => ⟨S1280x192x96, .fp8e4m3⟩
  | 69 => ⟨S4x40x1x64x96, .fp8e4m3⟩
  | 70 => ⟨S4x40x7x64x96, .fp8e4m3⟩
  | 71 => ⟨S4x40x8x64x96, .fp8e4m3⟩
  | 72 => ⟨S4x40x7x64x96, .fp8e4m3⟩
  | 73 => ⟨S4x40x1x64x96, .fp8e4m3⟩
  | 74 => ⟨S4x40x8x64x96, .fp8e4m3⟩
  | 75 => ⟨S4x40x8x192x96, .fp8e4m3⟩
  | 76 => ⟨S1280x192x96, .fp8e4m3⟩
  | 77 => ⟨S1280x64, .f32⟩
  | 78 => ⟨S4x40x1x64, .f32⟩
  | 79 => ⟨S4x40x7x64, .f32⟩
  | 80 => ⟨S4x40x8x64, .f32⟩
  | 81 => ⟨S4x40x7x64, .f32⟩
  | 82 => ⟨S4x40x1x64, .f32⟩
  | 83 => ⟨S4x40x8x64, .f32⟩
  | 84 => ⟨S4x40x8x192, .f32⟩
  | 85 => ⟨S1280x192, .f32⟩
  | 86 => ⟨S4x40x1x64, .f32⟩
  | 87 => ⟨S4x40x7x64, .f32⟩
  | 88 => ⟨S4x40x8x64, .f32⟩
  | 89 => ⟨S4x40x7x64, .f32⟩
  | 90 => ⟨S4x40x1x64, .f32⟩
  | 91 => ⟨S4x40x8x64, .f32⟩
  | 92 => ⟨S4x40x8x192, .f32⟩
  | 93 => ⟨S1280x192, .f32⟩
  | 94 => ⟨S1280x64, .i32⟩
  | 95 => ⟨S4x40x1x64, .i32⟩
  | 96 => ⟨S4x40x7x64, .i32⟩
  | 97 => ⟨S4x40x8x64, .i32⟩
  | 98 => ⟨S4x40x7x64, .i32⟩
  | 99 => ⟨S4x40x1x64, .i32⟩
  | 100 => ⟨S4x40x8x64, .i32⟩
  | 101 => ⟨S4x40x8x192, .i32⟩
  | 102 => ⟨S1280x192, .i32⟩
  | 103 => ⟨S1280x64, .i32⟩
  | 104 => ⟨S4x40x1x64, .i32⟩
  | 105 => ⟨S4x40x7x64, .i32⟩
  | 106 => ⟨S4x40x8x64, .i32⟩
  | 107 => ⟨S4x40x7x64, .i32⟩
  | 108 => ⟨S4x40x1x64, .i32⟩
  | 109 => ⟨S4x40x8x64, .i32⟩
  | 110 => ⟨S4x40x8x192, .i32⟩
  | 111 => ⟨S1280x192, .i32⟩
  | 112 => ⟨S1280x64x96, .f32⟩
  | 113 => ⟨S4x40x512x96, .f32⟩
  | 114 => ⟨S4, .i32⟩
  | 115 => ⟨S4x1x1, .i32⟩
  | 116 => ⟨S40, .i32⟩
  | 117 => ⟨S1x40x1, .i32⟩
  | 118 => ⟨S_, .f32⟩
  | 119 => ⟨S4x512x40x96, .f32⟩
  | 120 => ⟨S_, .i32⟩
  | 121 => ⟨S4x1x1, .i32⟩
  | 122 => ⟨S4x1x1, .i1⟩
  | 123 => ⟨S_, .i32⟩
  | 124 => ⟨S4x1x1, .i32⟩
  | 125 => ⟨S4x1x1, .i32⟩
  | 126 => ⟨S4x1x1, .i32⟩
  | 127 => ⟨S_, .i32⟩
  | _ => ⟨S4x512x40x96, .fp8e4m3⟩

abbrev hbmTy0_1 (i : Nat) : BufTy := match i % 128 with
  | 0 => ⟨S4x40x512, .i32⟩
  | 1 => ⟨S4x40x512, .i1⟩
  | 2 => ⟨S_, .i32⟩
  | 3 => ⟨S4x40x512, .i32⟩
  | 4 => ⟨S4x40x512, .i32⟩
  | 5 => ⟨S4x40x512, .i32⟩
  | 6 => ⟨S_, .i32⟩
  | 7 => ⟨S1x40x1, .i32⟩
  | 8 => ⟨S1x40x1, .i1⟩
  | 9 => ⟨S_, .i32⟩
  | 10 => ⟨S1x40x1, .i32⟩
  | 11 => ⟨S1x40x1, .i32⟩
  | 12 => ⟨S1x40x1, .i32⟩
  | 13 => ⟨S4x40x512, .i32⟩
  | 14 => ⟨S4x40x512, .i32⟩
  | 15 => ⟨S4x40x512x1, .i32⟩
  | 16 => ⟨S4x40x512x1, .i32⟩
  | 17 => ⟨S4x40x512x1, .i32⟩
  | 18 => ⟨S4x40x512x3, .i32⟩
  | 19 => ⟨S4x512x40x96, .f32⟩
  | 20 => ⟨S4x512x3840, .f32⟩
  | 21 => ⟨S4x512x3840, .bf16⟩
  | _ => ⟨S4x512x40x96, .fp8e4m3⟩

abbrev hbmTy (i : Nat) : BufTy := match i / 128 with
  | 0 => hbmTy0_0 i
  | 1 => hbmTy0_1 i
  | _ => ⟨S4x512x40x96, .fp8e4m3⟩

abbrev bufTy : (tb : Table) → Fin (tcTables nBuf tb) → BufTy
  | .hbm, ⟨i, _⟩ => hbmTy i
  | .local _ .vmem, ⟨0, _⟩ => ⟨S1280x64x96, .fp8e4m3⟩
  | .local _ .vmem, ⟨1, _⟩ => ⟨S1280x192x96, .fp8e4m3⟩
  | .local _ .vmem, ⟨2, _⟩ => ⟨S1280x192x96, .fp8e4m3⟩
  | .local _ .vmem, ⟨3, _⟩ => ⟨S1280x64, .f32⟩
  | .local _ .vmem, ⟨4, _⟩ => ⟨S1280x192, .f32⟩
  | .local _ .vmem, ⟨5, _⟩ => ⟨S1280x192, .f32⟩
  | .local _ .vmem, ⟨6, _⟩ => ⟨S1280x64, .i32⟩
  | .local _ .vmem, ⟨7, _⟩ => ⟨S1280x192, .i32⟩
  | .local _ .vmem, ⟨8, _⟩ => ⟨S1280x64, .i32⟩
  | .local _ .vmem, ⟨9, _⟩ => ⟨S1280x192, .i32⟩
  | .local _ .vmem, ⟨10, _⟩ => ⟨S1280x64x96, .f32⟩
  | _, _ => ⟨S4x512x40x96, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v5 : Ref sig .tc := ⟨.hbm, 18, rfl⟩
abbrev main_v6 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v7 : Ref sig .tc := ⟨.hbm, 27, rfl⟩
abbrev main_v8 : Ref sig .tc := ⟨.hbm, 28, rfl⟩
abbrev main_call2_c : Ref sig .tc := ⟨.hbm, 29, rfl⟩
abbrev main_call2_v0 : Ref sig .tc := ⟨.hbm, 30, rfl⟩
abbrev main_call2_v1 : Ref sig .tc := ⟨.hbm, 31, rfl⟩
abbrev main_call2_c_0 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_v9 : Ref sig .tc := ⟨.hbm, 37, rfl⟩
abbrev main_v10 : Ref sig .tc := ⟨.hbm, 38, rfl⟩
abbrev main_call3_c : Ref sig .tc := ⟨.hbm, 39, rfl⟩
abbrev main_call3_v0 : Ref sig .tc := ⟨.hbm, 40, rfl⟩
abbrev main_call3_v1 : Ref sig .tc := ⟨.hbm, 41, rfl⟩
abbrev main_call3_c_0 : Ref sig .tc := ⟨.hbm, 42, rfl⟩
abbrev main_call3_v2 : Ref sig .tc := ⟨.hbm, 43, rfl⟩
abbrev main_call3_v3 : Ref sig .tc := ⟨.hbm, 44, rfl⟩
abbrev main_call3_v4 : Ref sig .tc := ⟨.hbm, 45, rfl⟩
abbrev main_call3_v5 : Ref sig .tc := ⟨.hbm, 46, rfl⟩
abbrev main_v11 : Ref sig .tc := ⟨.hbm, 47, rfl⟩
abbrev main_v12 : Ref sig .tc := ⟨.hbm, 48, rfl⟩
abbrev main_call4_c : Ref sig .tc := ⟨.hbm, 49, rfl⟩
abbrev main_call4_v0 : Ref sig .tc := ⟨.hbm, 50, rfl⟩
abbrev main_call4_v1 : Ref sig .tc := ⟨.hbm, 51, rfl⟩
abbrev main_call4_c_0 : Ref sig .tc := ⟨.hbm, 52, rfl⟩
abbrev main_call4_v2 : Ref sig .tc := ⟨.hbm, 53, rfl⟩
abbrev main_call4_v3 : Ref sig .tc := ⟨.hbm, 54, rfl⟩
abbrev main_call4_v4 : Ref sig .tc := ⟨.hbm, 55, rfl⟩
abbrev main_call4_v5 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_call5_v0 : Ref sig .tc := ⟨.hbm, 61, rfl⟩
abbrev main_call5_v1 : Ref sig .tc := ⟨.hbm, 62, rfl⟩
abbrev main_v17 : Ref sig .tc := ⟨.hbm, 63, rfl⟩
abbrev main_call6_v0 : Ref sig .tc := ⟨.hbm, 64, rfl⟩
abbrev main_call6_v1 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_call7_v0 : Ref sig .tc := ⟨.hbm, 69, rfl⟩
abbrev main_call7_v1 : Ref sig .tc := ⟨.hbm, 70, rfl⟩
abbrev main_v21 : Ref sig .tc := ⟨.hbm, 71, rfl⟩
abbrev main_call8_v0 : Ref sig .tc := ⟨.hbm, 72, rfl⟩
abbrev main_call8_v1 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_call9_v0 : Ref sig .tc := ⟨.hbm, 78, rfl⟩
abbrev main_call9_v1 : Ref sig .tc := ⟨.hbm, 79, rfl⟩
abbrev main_v26 : Ref sig .tc := ⟨.hbm, 80, rfl⟩
abbrev main_call10_v0 : Ref sig .tc := ⟨.hbm, 81, rfl⟩
abbrev main_call10_v1 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_call11_v0 : Ref sig .tc := ⟨.hbm, 86, rfl⟩
abbrev main_call11_v1 : Ref sig .tc := ⟨.hbm, 87, rfl⟩
abbrev main_v30 : Ref sig .tc := ⟨.hbm, 88, rfl⟩
abbrev main_call12_v0 : Ref sig .tc := ⟨.hbm, 89, rfl⟩
abbrev main_call12_v1 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_call13_v0 : Ref sig .tc := ⟨.hbm, 95, rfl⟩
abbrev main_call13_v1 : Ref sig .tc := ⟨.hbm, 96, rfl⟩
abbrev main_v35 : Ref sig .tc := ⟨.hbm, 97, rfl⟩
abbrev main_call14_v0 : Ref sig .tc := ⟨.hbm, 98, rfl⟩
abbrev main_call14_v1 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_call15_v0 : Ref sig .tc := ⟨.hbm, 104, rfl⟩
abbrev main_call15_v1 : Ref sig .tc := ⟨.hbm, 105, rfl⟩
abbrev main_v40 : Ref sig .tc := ⟨.hbm, 106, rfl⟩
abbrev main_call16_v0 : Ref sig .tc := ⟨.hbm, 107, rfl⟩
abbrev main_call16_v1 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_cst : Ref sig .tc := ⟨.hbm, 118, rfl⟩
abbrev main_v50 : Ref sig .tc := ⟨.hbm, 119, rfl⟩
abbrev main_c : Ref sig .tc := ⟨.hbm, 120, rfl⟩
abbrev main_v51 : Ref sig .tc := ⟨.hbm, 121, rfl⟩
abbrev main_v52 : Ref sig .tc := ⟨.hbm, 122, rfl⟩
abbrev main_c_0 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_c_1 : Ref sig .tc := ⟨.hbm, 127, rfl⟩
abbrev main_v56 : Ref sig .tc := ⟨.hbm, 128, rfl⟩
abbrev main_v57 : Ref sig .tc := ⟨.hbm, 129, rfl⟩
abbrev main_c_2 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_c_3 : Ref sig .tc := ⟨.hbm, 134, rfl⟩
abbrev main_v61 : Ref sig .tc := ⟨.hbm, 135, rfl⟩
abbrev main_v62 : Ref sig .tc := ⟨.hbm, 136, rfl⟩
abbrev main_c_4 : Ref sig .tc := ⟨.hbm, 137, rfl⟩
abbrev main_v63 : Ref sig .tc := ⟨.hbm, 138, rfl⟩
abbrev main_v64 : Ref sig .tc := ⟨.hbm, 139, rfl⟩
abbrev main_v65 : Ref sig .tc := ⟨.hbm, 140, rfl⟩
abbrev main_v66 : Ref sig .tc := ⟨.hbm, 141, rfl⟩
abbrev main_v67 : Ref sig .tc := ⟨.hbm, 142, rfl⟩
abbrev main_v68 : Ref sig .tc := ⟨.hbm, 143, rfl⟩
abbrev main_v69 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_v73 : Ref sig .tc := ⟨.hbm, 148, rfl⟩
abbrev main_v74 : Ref sig .tc := ⟨.hbm, 149, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F] [Named F]

def κ : String → Option EReal := fun
  | "bucket_mask" => some ⊥
  | _ => none

abbrev grid0 : Pipeline.Grid := .none

abbrev stage0_0 : Fin 1 → Memref sig .tc .vmem S1280x64x96 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1280x192x96 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1280x192x96 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1280x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1280x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1280x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1280x64 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1280x192 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1280x64 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1280x192 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1280x64x96 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.KSpec.lean ====
/- What one grid point of the kernel computes, as a function of the blocks it loads: the lane gathers, the key
   factors, one tile of one head, one head, and the block of the result. Each definition is parametric in the head
   `h` and the tile `t`, where the printed body spells all eight heads and four tiles out. -/
module

public import proofs.«01_k».proof.Proof.Gen.KernelIdeal.Skeleton
public import Idealize.ShloMosaic.Lib.Pipeline.ValueKit

@[expose] public section

set_option maxRecDepth 16384
set_option synthInstance.maxSize 4096

noncomputable section

namespace Cert.KernelIdeal.Spec

open Cert.KernelIdeal Cert.KernelIdeal.Gen Idealize.ShloMosaic

variable {F : FTy → Type} [FloatOps F] [Named F]

/-! ## Offsets of a tile -/

/-- The first lane of the tile after tile `t` (cyclically). -/
abbrev nx (t : Fin 4) : ℕ := (t.val + 1) % 4 * 128
/-- The middle lane of the tile before tile `t` (cyclically). -/
abbrev pv (t : Fin 4) : ℕ := (t.val + 3) % 4 * 128 + 64
/-- The first lane of the tile before tile `t` (cyclically). -/
abbrev pv0 (t : Fin 4) : ℕ := (t.val + 3) % 4 * 128
/-- The first lane of tile `t`. -/
abbrev own (t : Fin 4) : ℕ := t.val * 128

theorem sl_8x128 : ∀ t : Fin 4, S8x512.Slices ![0, own t] S8x128 := by decide
theorem sl_row : ∀ h : Fin 8, S8x512.Slices ![h.val, 0] S1x512 := by decide
theorem sl_col : ∀ h : Fin 8, S512x8.Slices ![0, h.val] S512x1 := by decide
theorem sl_row128 : ∀ (h : Fin 8) (t : Fin 4), S8x512.Slices ![h.val, own t] S1x128 := by decide
theorem sl_k_nx : ∀ t : Fin 4, S512x96.Slices ![nx t, 0] S64x96 := by decide
theorem sl_k_pv : ∀ t : Fin 4, S512x96.Slices ![pv t, 0] S64x96 := by decide
theorem sl_k_own : ∀ t : Fin 4, S512x96.Slices ![own t, 0] S128x96 := by decide
theorem sl_c_nx : ∀ t : Fin 4, S512x1.Slices ![nx t, 0] S64x1 := by decide
theorem sl_c_pv : ∀ t : Fin 4, S512x1.Slices ![pv t, 0] S64x1 := by decide
theorem sl_c_own : ∀ t : Fin 4, S512x1.Slices ![own t, 0] S128x1 := by decide
theorem sl_v_nx : ∀ t : Fin 4, S96x512.Slices ![0, nx t] S96x128 := by decide
theorem sl_v_pv : ∀ t : Fin 4, S96x512.Slices ![0, pv0 t] S96x128 := by decide
theorem sl_v_own : ∀ t : Fin 4, S96x512.Slices ![0, own t] S96x128 := by decide

/-! ## The lane gathers -/

/-- One block of 128 lanes of a gather along the lanes: lane `c` reads `x` at lane `128 * hi c + lo c`. -/
def gatherBlk {α : Type} (x : S8x512.Idx → α) (hi lo : IVec S8x128 32) : S8x128.Idx → α :=
  have idx : IVec S8x128 32 := shapeCast S8x128 (shapeCast S8x128x1 (select (cmpi .slt lo (broadcast S8x128 0#32)) (addi lo (broadcast S8x128 128#32)) lo) shapeCasts_S8x128_S8x128x1) shapeCasts_S8x128x1_S8x128
  select (cmpi .eq hi (broadcast S8x128 3#32)) (dynamicGather 1 (extractStridedSlice S8x128 ![0, own 3] x (sl_8x128 3)) idx)
    (select (cmpi .eq hi (broadcast S8x128 2#32)) (dynamicGather 1 (extractStridedSlice S8x128 ![0, own 2] x (sl_8x128 2)) idx)
      (select (cmpi .eq hi (broadcast S8x128 1#32)) (dynamicGather 1 (extractStridedSlice S8x128 ![0, own 1] x (sl_8x128 1)) idx)
        (dynamicGather 1 (extractStridedSlice S8x128 ![0, own 0] x (sl_8x128 0)) idx)))

/-- Block `t` of the gather of `x` by the lane numbers `p`. -/
def gatherAt {α : Type} (x : S8x512.Idx → α) (p : IVec S8x512 32) (t : Fin 4) : S8x128.Idx → α :=
  gatherBlk x (shrsi (extractStridedSlice S8x128 ![0, own t] p (sl_8x128 t)) (broadcast S8x128 7#32))
    (andi (extractStridedSlice S8x128 ![0, own t] p (sl_8x128 t)) (broadcast S8x128 127#32))

/-- The gather of `x` along the lanes by the lane numbers `p`. -/
def gatherLanes {α : Type} (x : S8x512.Idx → α) (p : IVec S8x512 32) : S8x512.Idx → α :=
  concatenate S8x512 1 [⟨S8x128, gatherAt x p 0⟩, ⟨S8x128, gatherAt x p 1⟩, ⟨S8x128, gatherAt x p 2⟩, ⟨S8x128, gatherAt x p 3⟩] concatenates_S8x128_S8x128_S8x128_S8x128_S8x512_d1

/-! ## The key factors -/

/-- The sum of squares down one head's columns. -/
def rowSq (q : Vec F S1x1x96x512 .fp8e4m3) : FVec F S1x512 .f32 :=
  have x : FVec F S96x512 .f32 := extf .f32 (shapeCast S96x512 q shapeCasts_S1x1x96x512_S96x512) bitsLt_fp8e4m3_f32
  shapeCast S1x512 (multiReduction .add [0] S512 (mulf x x) 0x00000000#32 reduces_S96x512_S512 (.inl rfl) rfl) shapeCasts_S512_S1x512

/-- The key factor of each column, times `log2 e`. -/
def keyFactor (r : Fin 8 → FVec F S1x512 .f32) (sc : Vec F S1x8x512 .f32) : FVec F S8x512 .f32 :=
  have v74 : FVec F S8x512 .f32 := concatenate S8x512 0 [⟨S1x512, r 0⟩, ⟨S1x512, r 1⟩, ⟨S1x512, r 2⟩, ⟨S1x512, r 3⟩, ⟨S1x512, r 4⟩, ⟨S1x512, r 5⟩, ⟨S1x512, r 6⟩, ⟨S1x512, r 7⟩] concatenates_S1x512_S1x512_S1x512_S1x512_S1x512_S1x512_S1x512_S1x512_S8x512_d0
  have v76 : FVec F S8x512 .f32 := mulf v74 (broadcast S8x512 (Named.named κ "inv_dh" 0x3C2AAAAB#32))
  have v78 : FVec F S8x512 .f32 := shapeCast S8x512 sc shapeCasts_S1x8x512_S8x512
  have v82 : FVec F S8x512 .f32 := addf (mulf (mulf v78 v78) v76) (broadcast S8x512 (Scalar.ofBits .f32 0x358637BD#32))
  mulf (mulf (mulf v78 (rsqrt v82)) (broadcast S8x512 (Scalar.ofBits .f32 0x3DD105EC#32))) (broadcast S8x512 (Named.named κ "log2_e" 0x3FB8AA3B#32))

/-! ## One head -/

/-- The caps of a tile's scores: −∞ outside the window, the self mask on the diagonal, +∞ elsewhere. -/
def cap : FVec F S256x128 .f32 :=
  have r : IVec S128x128 32 := iota .tc S128x128 32 [0] iota_S128x128_d0_w32
  have c : IVec S128x128 32 := iota .tc S128x128 32 [1] iota_S128x128_d1_w32
  have v790 : IVec S128x128 1 := xori (xori (cmpi .slt r (broadcast S128x128 64#32)) (cmpi .slt c (broadcast S128x128 64#32))) (constantI S128x128 1 1#1)
  have v793 : FVec F S128x128 .f32 := select v790 (broadcast S128x128 (Named.named κ "bucket_mask" 0xCEABFB8F#32)) (broadcast S128x128 (Scalar.ofBits .f32 0x7F800000#32))
  have v797 : FVec F S128x128 .f32 := select (cmpi .eq r c) (broadcast S128x128 (Named.named κ "self_mask" 0xC80CE360#32)) (broadcast S128x128 (Scalar.ofBits .f32 0x7F800000#32))
  concatenate S256x128 0 [⟨S128x128, v793⟩, ⟨S128x128, v797⟩] concatenates_S128x128_S128x128_S256x128_d0

/-- The one-hot matrix of head `h`: entry (r, c) is one where `r` is lane `c`'s number. -/
def onehot (h : Fin 8) (p : IVec S8x512 32) : FVec F S512x512 .fp8e4m3 :=
  have v772 : IVec S8x512 32 := shrsi p (broadcast S8x512 2#32)
  have v778 : IVec S8x512 32 := shli (broadcast S8x512 56#32) (muli (andi p (broadcast S8x512 3#32)) (broadcast S8x512 8#32))
  have v800 : IVec S128x512 32 := broadcastTo S128x512 (extractStridedSlice S1x512 ![h.val, 0] v772 (sl_row h)) broadcasts_S1x512_S128x512
  have v804 : IVec S128x512 32 := broadcastTo S128x512 (shapeCast S1x512 (extractStridedSlice S1x512 ![h.val, 0] v778 (sl_row h)) shapeCasts_S1x512_S1x512) broadcasts_S1x512_S128x512
  have v806 : IVec S128x512 32 := select (cmpi .eq (iota .tc S128x512 32 [0] iota_S128x512_d0_w32) v800) v804 (broadcast S128x512 0#32)
  bitcastToFloat .fp8e4m3 (bitcast S512x512 8 v806 bitcasts_S128x512_w32_S512x512_w8)

/-- The sorted queries over the sorted values of one head: the two dots with the one-hot matrix. -/
def sorted (q v : Vec F S1x1x96x512 .fp8e4m3) (oh : FVec F S512x512 .fp8e4m3) : FVec F S192x512 .f32 :=
  matmul dot_S192x512_S512x512_S192x512_1_0_0_1_n_n none
    (concatenate S192x512 0 [⟨S96x512, (shapeCast S96x512 q shapeCasts_S1x1x96x512_S96x512 : FVec F S96x512 .fp8e4m3)⟩, ⟨S96x512, (shapeCast S96x512 v shapeCasts_S1x1x96x512_S96x512 : FVec F S96x512 .fp8e4m3)⟩] concatenates_S96x512_S96x512_S192x512_d0)
    oh (constant S192x512 .f32 0x00000000#32)

/-- The masked scores of tile `t` of head `h`: `k` the sorted keys, `qt` the sorted queries, `KF` / `QF` the key
    factors and query scales at each lane, `BK` the buckets. -/
def scores (h : Fin 8) (t : Fin 4) (KF QF : FVec F S8x512 .f32) (BK : IVec S8x512 32)
    (k : FVec F S512x96 .fp8e4m3) (qt : FVec F S96x512 .fp8e4m3) : FVec F S256x128 .f32 :=
  have v828 : FVec F S256x96 .fp8e4m3 := concatenate S256x96 0 [⟨S64x96, extractStridedSlice S64x96 ![nx t, 0] k (sl_k_nx t)⟩, ⟨S64x96, extractStridedSlice S64x96 ![pv t, 0] k (sl_k_pv t)⟩, ⟨S128x96, extractStridedSlice S128x96 ![own t, 0] k (sl_k_own t)⟩] concatenates_S64x96_S64x96_S128x96_S256x96_d0
  have v830 : FVec F S256x128 .f32 := matmul dot_S256x96_S96x128_S256x128_1_0_0_1_n_n none v828 (extractStridedSlice S96x128 ![0, own t] qt (sl_v_own t)) (constant S256x128 .f32 0x00000000#32)
  have v831 : FVec F S512x1 .f32 := extractStridedSlice S512x1 ![0, h.val] (transpose S512x8 [1, 0] KF transposes_S8x512_p1_0_S512x8) (sl_col h)
  have v835 : FVec F S256x1 .f32 := concatenate S256x1 0 [⟨S64x1, extractStridedSlice S64x1 ![nx t, 0] v831 (sl_c_nx t)⟩, ⟨S64x1, extractStridedSlice S64x1 ![pv t, 0] v831 (sl_c_pv t)⟩, ⟨S128x1, extractStridedSlice S128x1 ![own t, 0] v831 (sl_c_own t)⟩] concatenates_S64x1_S64x1_S128x1_S256x1_d0
  have v837 : FVec F S256x128 .f32 := mulf v830 (broadcastTo S256x128 v835 broadcasts_S256x1_S256x128)
  have v840 : FVec F S256x128 .f32 := mulf v837 (broadcastTo S256x128 (extractStridedSlice S1x128 ![h.val, own t] QF (sl_row128 h t)) broadcasts_S1x128_S256x128)
  have v841 : IVec S512x1 32 := extractStridedSlice S512x1 ![0, h.val] (transpose S512x8 [1, 0] BK transposes_S8x512_p1_0_S512x8) (sl_col h)
  have v845 : IVec S256x1 32 := concatenate S256x1 0 [⟨S64x1, extractStridedSlice S64x1 ![nx t, 0] v841 (sl_c_nx t)⟩, ⟨S64x1, extractStridedSlice S64x1 ![pv t, 0] v841 (sl_c_pv t)⟩, ⟨S128x1, extractStridedSlice S128x1 ![own t, 0] v841 (sl_c_own t)⟩] concatenates_S64x1_S64x1_S128x1_S256x1_d0
  have v849 : IVec S256x128 1 := cmpi .eq (broadcastTo S256x128 v845 broadcasts_S256x1_S256x128) (broadcastTo S256x128 (extractStridedSlice S1x128 ![h.val, own t] BK (sl_row128 h t)) broadcasts_S1x128_S256x128)
  select v849 (minimumf v840 cap) (broadcast S256x128 (Named.named κ "bucket_mask" 0xCEABFB8F#32))

/-- The weights of a tile before their normalisation: `2 ^ (score − the column's largest score)`. -/
def weights (s : FVec F S256x128 .f32) : FVec F S256x128 .f32 :=
  exp2 (subf s (broadcastTo S256x128 (shapeCast S1x128 (multiReduction .maximumf [0] S128 s 0xFF800000#32 reduces_S256x128_S128 (.inl rfl) rfl) shapeCasts_S128_S1x128) broadcasts_S1x128_S256x128))

/-- The values in a tile's window: the next tile's first half beside the previous tile's second half, and the tile's own. -/
def window (t : Fin 4) (vt : FVec F S96x512 .bf16) : FVec F S96x256 .bf16 :=
  have v782 : IVec S1x128 1 := cmpi .slt (iota .tc S1x128 32 [1] iota_S1x128_d1_w32) (broadcast S1x128 64#32)
  have v864 : FVec F S96x128 .bf16 := select (broadcastTo S96x128 (shapeCast S1x128 v782 shapeCasts_S1x128_S1x128) broadcasts_S1x128_S96x128) (extractStridedSlice S96x128 ![0, nx t] vt (sl_v_nx t)) (extractStridedSlice S96x128 ![0, pv0 t] vt (sl_v_pv t))
  concatenate S96x256 1 [⟨S96x128, v864⟩, ⟨S96x128, extractStridedSlice S96x128 ![0, own t] vt (sl_v_own t)⟩] concatenates_S96x128_S96x128_S96x256_d1

/-- The mixture of the window's values `w` by the weights `e`. -/
def mixture (w : FVec F S96x256 .bf16) (e : FVec F S256x128 .f32) : FVec F S96x128 .bf16 :=
  have l : FVec F S1x128 .f32 := shapeCast S1x128 (multiReduction .add [0] S128 e 0x00000000#32 reduces_S256x128_S128 (.inl rfl) rfl) shapeCasts_S128_S1x128
  have o : FVec F S96x128 .f32 := matmul dot_S96x256_S256x128_S96x128_1_0_0_1_n_n none w (truncf .bf16 e bitsLt_bf16_f32) (constant S96x128 .f32 0x00000000#32)
  truncf .bf16 (mulf o (broadcastTo S96x128 (divf (broadcast S1x128 (Scalar.ofBits .f32 0x3F800000#32)) l) broadcasts_S1x128_S96x128)) bitsLt_bf16_f32

/-- Tile `t` of head `h`. -/
def tile (h : Fin 8) (t : Fin 4) (KF QF : FVec F S8x512 .f32) (BK : IVec S8x512 32)
    (k : FVec F S512x96 .fp8e4m3) (qt : FVec F S96x512 .fp8e4m3) (vt : FVec F S96x512 .bf16) : FVec F S96x128 .bf16 :=
  mixture (window t vt) (weights (scores h t KF QF BK k qt))

/-- The sorted queries. -/
def queries (x : FVec F S192x512 .f32) : FVec F S96x512 .fp8e4m3 :=
  truncf .fp8e4m3 (extractStridedSlice S96x512 ![0, 0] x slices_S192x512_o0_0_S96x512) bitsLt_fp8e4m3_f32

/-- The sorted queries transposed: the keys. -/
def keys (x : FVec F S192x512 .f32) : FVec F S512x96 .fp8e4m3 :=
  truncf .fp8e4m3 (transpose S512x96 [1, 0] (truncf .bf16 (extractStridedSlice S96x512 ![0, 0] x slices_S192x512_o0_0_S96x512) bitsLt_bf16_f32) transposes_S96x512_p1_0_S512x96) bitsLt_fp8e4m3_bf16

/-- The sorted values times their scales. -/
def values (h : Fin 8) (VS : FVec F S8x512 .f32) (x : FVec F S192x512 .f32) : FVec F S96x512 .bf16 :=
  truncf .bf16 (mulf (extractStridedSlice S96x512 ![96, 0] x slices_S192x512_o96_0_S96x512) (broadcastTo S96x512 (extractStridedSlice S1x512 ![h.val, 0] VS (sl_row h)) broadcasts_S1x512_S96x512)) bitsLt_bf16_f32

/-- The four tiles of head `h`, in sorted order. -/
def attended (h : Fin 8) (KF QF VS : FVec F S8x512 .f32) (BK : IVec S8x512 32) (x : FVec F S192x512 .f32) : FVec F S96x512 .bf16 :=
  concatenate S96x512 1 [⟨S96x128, tile h 0 KF QF BK (keys x) (queries x) (values h VS x)⟩, ⟨S96x128, tile h 1 KF QF BK (keys x) (queries x) (values h VS x)⟩, ⟨S96x128, tile h 2 KF QF BK (keys x) (queries x) (values h VS x)⟩, ⟨S96x128, tile h 3 KF QF BK (keys x) (queries x) (values h VS x)⟩] concatenates_S96x128_S96x128_S96x128_S96x128_S96x512_d1

/-- Head `h` of the block, put back in the original order by the dot with the one-hot matrix. -/
def head (h : Fin 8) (p : IVec S8x512 32) (KF QF VS : FVec F S8x512 .f32) (BK : IVec S8x512 32) (q v : Vec F S1x1x96x512 .fp8e4m3) : FVec F S96x512 .bf16 :=
  shapeCast S96x512 (truncf .bf16 (matmul dot_S96x512_S512x512_S96x512_1_1_0_0_n_n none (attended h KF QF VS BK (sorted q v (onehot h p))) (onehot h p) (constant S96x512 .f32 0x00000000#32)) bitsLt_bf16_f32) shapeCasts_S96x512_S96x512

/-! ## The block of the result -/

theorem ld_head : ∀ (h : Fin 8) (a : Fin 4), (![0, h.val, 0, 0] : Fin 4 → ℕ) a + S1x1x96x512.size a ≤ S1x8x96x512.size a := by decide
theorem st_head : ∀ (h : Fin 8) (a : Fin 2), (![h.val * 96, 0] : Fin 2 → ℕ) a + S96x512.size a ≤ S768x512.size a := by decide

/-- The part of a block of queries or values that holds head `h`. -/
abbrev headRect (h : Fin 8) : Rect S1x8x96x512 := Rect.unit (s := S1x8x96x512) ![0, h.val, 0, 0] S1x1x96x512.size (ld_head h)

/-- The rows of the result that head `h` fills, before the last transposition. -/
abbrev rowRect (h : Fin 8) : Rect S768x512 := Rect.unit (s := S768x512) ![h.val * 96, 0] S96x512.size (st_head h)

/-- Head `h` of the block, from the loads of the six blocks. -/
def headOf (h : Fin 8) (q v : Fin 8 → Vec F S1x1x96x512 .fp8e4m3) (ks vs : Vec F S1x8x512 .f32) (bk pm : Vec F S1x8x512 .i32) : FVec F S96x512 .bf16 :=
  have p : IVec S8x512 32 := shapeCast S8x512 pm shapeCasts_S1x8x512_S8x512
  head h p (gatherLanes (keyFactor (fun h => rowSq (q h)) ks) p) (gatherLanes (shapeCast S8x512 ks shapeCasts_S1x8x512_S8x512 : FVec F S8x512 .f32) p)
    (gatherLanes (shapeCast S8x512 vs shapeCasts_S1x8x512_S8x512 : FVec F S8x512 .f32) p) (gatherLanes (shapeCast S8x512 bk shapeCasts_S1x8x512_S8x512 : IVec S8x512 32) p) (q h) (v h)

end Cert.KernelIdeal.Spec

end
-- ==== Proof.KPieces.lean ====
/- What the kernel's body stores at one grid point: the eight heads in the scratch buffer, and the result block read
   back from it and transposed. -/
module

public import proofs.«01_k».proof.Proof.Gen.KernelIdeal.Value
public import proofs.«01_k».proof.Proof.KSpec
public import Idealize.ShloMosaic.Lib.Pipeline.ValueKit
public import Idealize.ShloMosaic.Lib.Pipeline.ReadBack

@[expose] public section

set_option maxRecDepth 16384
set_option synthInstance.maxSize 4096

noncomputable section

namespace Cert.KernelIdeal.Spec

open Cert.KernelIdeal Cert.KernelIdeal.Gen Idealize.ShloMosaic
open Idealize.ShloMosaic.Tactic
variable {F : FTy → Type} [FloatOps F] [Named F]

/-- The one store of the body into the result block. -/
theorem pieces_eq (c : Dev nD) (i : grid0.Coords) (arg2 : Memref sig .tc .vmem S1x8x96x512 .fp8e4m3) (harg2 : arg2.IsWhole) (arg3 : Memref sig .tc .vmem S1x8x96x512 .fp8e4m3) (harg3 : arg3.IsWhole) (arg4 : Memref sig .tc .vmem S1x8x512 .f32) (harg4 : arg4.IsWhole) (arg5 : Memref sig .tc .vmem S1x8x512 .f32) (harg5 : arg5.IsWhole) (arg6 : Memref sig .tc .vmem S1x8x512 .i32) (harg6 : arg6.IsWhole) (arg7 : Memref sig .tc .vmem S1x8x512 .i32) (harg7 : arg7.IsWhole) (arg8 : Memref sig .tc .vmem S1x512x768 .bf16) (harg8 : arg8.IsWhole) (arg9 : Memref sig .tc .vmem S768x512 .bf16) (harg9 : arg9.IsWhole)
    (x0 : Vec F S1x8x96x512 .fp8e4m3) (x1 : Vec F S1x8x96x512 .fp8e4m3) (x2 : Vec F S1x8x512 .f32) (x3 : Vec F S1x8x512 .f32) (x4 : Vec F S1x8x512 .i32) (x5 : Vec F S1x8x512 .i32)
    (q v : Fin 8 → Vec F S1x1x96x512 .fp8e4m3) (ks vs : Vec F S1x8x512 .f32) (bk pm : Vec F S1x8x512 .i32)
    (hq : q = fun h => View.readAt (Elt F) arg2.view (headRect h).toLoadRect (harg2.unread x0))
    (hv : v = fun h => View.readAt (Elt F) arg3.view (headRect h).toLoadRect (harg3.unread x1))
    (hks : ks = View.readAt (Elt F) arg4.view (Rect.unit (s := S1x8x512) ![0, 0, 0] S1x8x512.size inb_S1x8x512_S1x8x512_0_0_0).toLoadRect (harg4.unread x2))
    (hvs : vs = View.readAt (Elt F) arg5.view (Rect.unit (s := S1x8x512) ![0, 0, 0] S1x8x512.size inb_S1x8x512_S1x8x512_0_0_0).toLoadRect (harg5.unread x3))
    (hbk : bk = View.readAt (Elt F) arg6.view (Rect.unit (s := S1x8x512) ![0, 0, 0] S1x8x512.size inb_S1x8x512_S1x8x512_0_0_0).toLoadRect (harg6.unread x4))
    (hpm : pm = View.readAt (Elt F) arg7.view (Rect.unit (s := S1x8x512) ![0, 0, 0] S1x8x512.size inb_S1x8x512_S1x8x512_0_0_0).toLoadRect (harg7.unread x5)) :
    (kernelRun0_A c i arg2 harg2 arg3 harg3 arg4 harg4 arg5 harg5 arg6 harg6 arg7 harg7 arg8 harg8 arg9 harg9 x0 x1 x2 x3 x4 x5).1
      = [(⟨Rect.unit (s := S1x512x768) ![0, 0, 0] S1x512x768.size inb_S1x512x768_S1x512x768_0_0_0,
          k0_pay1 (transpose S512x768 [1, 0] (arg9.view.readCov (Val := Elt F)
            [⟨rowRect 7, headOf 7 q v ks vs bk pm⟩, ⟨rowRect 6, headOf 6 q v ks vs bk pm⟩, ⟨rowRect 5, headOf 5 q v ks vs bk pm⟩, ⟨rowRect 4, headOf 4 q v ks vs bk pm⟩,
             ⟨rowRect 3, headOf 3 q v ks vs bk pm⟩, ⟨rowRect 2, headOf 2 q v ks vs bk pm⟩, ⟨rowRect 1, headOf 1 q v ks vs bk pm⟩, ⟨rowRect 0, headOf 0 q v ks vs bk pm⟩]
            (Rect.unit (s := S768x512) ![0, 0] S768x512.size inb_S768x512_S768x512_0_0).toLoadRect) transposes_S768x512_p1_0_S512x768)⟩ : View.Piece (Elt F) S1x512x768 .bf16)] := by
  subst hq hv hks hvs hbk hpm
  sl_kernel_rfl
-- ==== Proof.Core.lean ====
/- The mathematics: the kernel's formula for one element of the attention is the reference's, over the extended reals.
   The reference attends from each sorted position to the 192 positions of the chunk before its own, its own and the one
   after. The kernel works by tiles of two chunks: each position scores 256 positions, of which it masks 64, in powers
   of two. -/
module

public import Idealize.ShloMosaic.Lib.Pointwise

@[expose] public section

noncomputable section

namespace Cert.Core

open Idealize.ShloMosaic

/-! ## Sums and maxima over the extended reals -/

theorem sum_mul_real {ι : Type} (s : Finset ι) (f : ι → EReal) {c : EReal} (h0 : 0 ≤ c) (ht : c ≠ ⊤) :
    (∑ k ∈ s, f k) * c = ∑ k ∈ s, f k * c := by
  classical
  induction s using Finset.induction_on with
  | empty => simp
  | insert a s ha ih =>
    rw [Finset.sum_insert ha, Finset.sum_insert ha, ← ih, mul_comm, EReal.left_distrib_of_nonneg_of_ne_top h0 ht,
      mul_comm c, mul_comm c]

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem fold_max_eq_sup {ι : Type} (s : Finset ι) (f : ι → EReal) : s.fold max ⊥ f = s.sup f := rfl

theorem log2_pos : (0 : ℝ) < (Real.log 2)⁻¹ := inv_pos.mpr (Real.log_pos (by norm_num))

/-- The power of two of a scaled difference is the exponential of the difference, below the maximum. -/
theorem exp2_scaled {a M : EReal} (hM : M ≠ ⊥) (ha : a ≤ M) :
    Ideal.exp2 ((((Real.log 2)⁻¹ : ℝ) : EReal) * a - (((Real.log 2)⁻¹ : ℝ) : EReal) * M) = Ideal.exp (a - M) := by
  have hL := log2_pos
  induction M with
  | bot => exact absurd rfl hM
  | top =>
    rw [EReal.coe_mul_top_of_pos hL, EReal.sub_top, EReal.sub_top]; rfl
  | coe m =>
    induction a with
    | bot => rw [EReal.coe_mul_bot_of_pos hL, EReal.bot_sub, EReal.bot_sub]; rfl
    | top => exact absurd ha (by simp)
    | coe x =>
      rw [← EReal.coe_mul, ← EReal.coe_mul, ← EReal.coe_sub, ← EReal.coe_sub]
      show ((Real.rpow 2 _ : ℝ) : EReal) = ((Real.exp _ : ℝ) : EReal)
      congr 1
      change (2 : ℝ) ^ ((Real.log 2)⁻¹ * x - (Real.log 2)⁻¹ * m) = Real.exp (x - m)
      rw [Real.rpow_def_of_pos (by norm_num)]
      congr 1
      have : Real.log 2 ≠ 0 := (Real.log_pos (by norm_num)).ne'
      field_simp

theorem exp2_bot_sub (M : EReal) : Ideal.exp2 (⊥ - M) = 0 := by
  rw [EReal.bot_sub]; rfl

theorem exp_nonneg (a : EReal) : 0 ≤ Ideal.exp a := by
  induction a with
  | bot => exact le_refl _
  | top => exact le_top
  | coe x => exact EReal.coe_nonneg.mpr (Real.exp_pos x).le

/-- The scaled scores' maximum is the scaled maximum, the masked ones being −∞. -/
theorem sup_scaled {L : ℝ} (hL : 0 < L) {ι κ : Type} [Fintype ι] [Fintype κ] [Nonempty ι] (ψ : ι → κ)
    (a : ι → EReal) (a' : κ → EReal) (h1 : ∀ k, a' (ψ k) = (L : EReal) * a k) (h2 : ∀ r, (∀ k, ψ k ≠ r) → a' r = ⊥) :
    Finset.univ.sup a' = (L : EReal) * Finset.univ.sup a := by
  apply le_antisymm
  · refine Finset.sup_le fun r _ => ?_
    by_cases h : ∃ k, ψ k = r
    · obtain ⟨k, rfl⟩ := h
      rw [h1]
      exact mul_le_mul_of_nonneg_left (Finset.le_sup (f := a) (Finset.mem_univ k)) (EReal.coe_nonneg.mpr hL.le)
    · rw [h2 r (fun k hk => h ⟨k, hk⟩)]; exact bot_le
  · obtain ⟨k, -, hk⟩ := Finset.exists_mem_eq_sup (Finset.univ : Finset ι) Finset.univ_nonempty a
    rw [hk, ← h1]
    exact Finset.le_sup (f := a') (Finset.mem_univ (ψ k))

/-- One over a sum of exponentials that reach the maximum is a real number at least zero, unless the maximum is +∞. -/
theorem norm_real {ι : Type} [Fintype ι] [Nonempty ι] (a : ι → EReal) (m : ℝ) (hm : Finset.univ.sup a = (m : EReal)) :
    0 ≤ Ideal.div 1 (∑ k, Ideal.exp (a k - (m : EReal))) ∧ Ideal.div 1 (∑ k, Ideal.exp (a k - (m : EReal))) ≠ ⊤ := by
  have hle : ∀ k, a k ≤ (m : EReal) := fun k => hm ▸ Finset.le_sup (f := a) (Finset.mem_univ k)
  have hreal : ∀ k, ∃ r : ℝ, Ideal.exp (a k - (m : EReal)) = (r : EReal) ∧ 0 ≤ r := fun k => by
    have := hle k
    generalize a k = x at this ⊢
    induction x with
    | bot => exact ⟨0, by rw [EReal.bot_sub]; rfl, le_refl _⟩
    | top => exact absurd this (by simp)
    | coe x => exact ⟨Real.exp (x - m), by rw [← EReal.coe_sub]; rfl, (Real.exp_pos _).le⟩
  choose r hr hr0 using hreal
  obtain ⟨k0, -, hk0⟩ := Finset.exists_mem_eq_sup (Finset.univ : Finset ι) Finset.univ_nonempty a
  have h1 : r k0 = 1 := by
    have := hr k0
    rw [← hk0, hm, ← EReal.coe_sub, sub_self] at this
    have h : ((1 : ℝ) : EReal) = (r k0 : EReal) := by rw [← this]; show _ = ((Real.exp 0 : ℝ) : EReal); rw [Real.exp_zero]
    exact (EReal.coe_eq_coe_iff.mp h).symm
  have hsum : ∑ k, Ideal.exp (a k - (m : EReal)) = ((∑ k, r k : ℝ) : EReal) := by
    rw [coe_sum]; exact Finset.sum_congr rfl fun k _ => hr k
  have hpos : 0 < ∑ k, r k := lt_of_lt_of_le (by rw [h1]; norm_num) (Finset.single_le_sum (f := r) (fun k _ => hr0 k) (Finset.mem_univ k0))
  have hd : Ideal.div 1 ((∑ k, r k : ℝ) : EReal) = ((∑ k, r k)⁻¹ : ℝ) := by
    unfold Ideal.div
    rw [if_neg (by exact_mod_cast hpos.ne'), one_mul, ← EReal.coe_inv]
  rw [hsum, hd]
  exact ⟨EReal.coe_nonneg.mpr (inv_nonneg.mpr hpos.le), EReal.coe_ne_top _⟩

/-- The mixture by powers of two over the larger, masked window is the mixture by exponentials over the smaller one. -/
theorem mixture_eq {ι κ : Type} [Fintype ι] [Fintype κ] (ψ : ι → κ) (hψ : Function.Injective ψ)
    (a : ι → EReal) (a' : κ → EReal) (v s : ι → EReal) (u : κ → EReal)
    (h1 : ∀ k, a' (ψ k) = (((Real.log 2)⁻¹ : ℝ) : EReal) * a k) (h2 : ∀ r, (∀ k, ψ k ≠ r) → a' r = ⊥)
    (hu : ∀ k, u (ψ k) = v k * s k) (k0 : ι) (hk0 : a k0 ≠ ⊥) :
    (∑ r, u r * Ideal.exp2 (a' r - Finset.univ.fold max ⊥ a')) * Ideal.div 1 (∑ r, Ideal.exp2 (a' r - Finset.univ.fold max ⊥ a'))
      = ∑ k, ((Ideal.exp (a k - Finset.univ.fold max ⊥ a) * Ideal.div 1 (∑ k, Ideal.exp (a k - Finset.univ.fold max ⊥ a))) * s k) * v k := by
  haveI : Nonempty ι := ⟨k0⟩
  rw [fold_max_eq_sup, fold_max_eq_sup, sup_scaled log2_pos ψ a a' h1 h2]
  have hle : ∀ k, a k ≤ Finset.univ.sup a := fun k => Finset.le_sup (f := a) (Finset.mem_univ k)
  have hM : Finset.univ.sup a ≠ ⊥ := fun h => hk0 (le_bot_iff.mp (h ▸ hle k0))
  generalize hMe : Finset.univ.sup a = M at *
  have hw : ∀ k, Ideal.exp2 (a' (ψ k) - (((Real.log 2)⁻¹ : ℝ) : EReal) * M) = Ideal.exp (a k - M) := fun k => by
    rw [h1]; exact exp2_scaled hM (hle k)
  have hw0 : ∀ r, (∀ k, ψ k ≠ r) → Ideal.exp2 (a' r - (((Real.log 2)⁻¹ : ℝ) : EReal) * M) = 0 := fun r hr => by
    rw [h2 r hr]; exact exp2_bot_sub _
  have hl : ∑ r, Ideal.exp2 (a' r - (((Real.log 2)⁻¹ : ℝ) : EReal) * M) = ∑ k, Ideal.exp (a k - M) :=
    (Fintype.sum_of_injective ψ hψ _ _ (fun r hr => hw0 r fun k hk => hr ⟨k, hk⟩) fun k => (hw k).symm).symm
  have ho : ∑ r, u r * Ideal.exp2 (a' r - (((Real.log 2)⁻¹ : ℝ) : EReal) * M) = ∑ k, (v k * s k) * Ideal.exp (a k - M) :=
    (Fintype.sum_of_injective ψ hψ _ _ (fun r hr => by rw [hw0 r fun k hk => hr ⟨k, hk⟩, mul_zero]) fun k => by rw [hw, hu]).symm
  rw [hl, ho]
  induction M with
  | bot => exact absurd rfl hM
  | top =>
    have he : ∀ k, Ideal.exp (a k - ⊤) = 0 := fun k => by rw [EReal.sub_top]; rfl
    simp only [he, mul_zero, zero_mul, Finset.sum_const_zero]
  | coe m =>
    obtain ⟨c0, ct⟩ := norm_real a m hMe
    rw [sum_mul_real _ _ c0 ct]
    exact Finset.sum_congr rfl fun k _ => by ac_rfl

end Cert.Core

end
-- ==== Proof.Score.lean ====
/- The scores, and with them one element of the attention, by the reference's formula and by the kernel's. -/
module

public import proofs.«01_k».proof.Proof.Core

@[expose] public section

noncomputable section

namespace Cert.Core

open Idealize.ShloMosaic

/-! ## The printed constants -/

theorem ofBits_96 : Ideal.ofBits .f32 0x42C00000#32 = ((96 : ℝ) : EReal) := by
  simp [Ideal.ofBits, Ideal.ieee]
  rw [← EReal.coe_mul]; norm_num

theorem ofBits_self : Ideal.ofBits .f32 0xC7C35000#32 = ((-100000 : ℝ) : EReal) := by
  simp [Ideal.ofBits, Ideal.ieee]
  rw [← EReal.coe_mul]; norm_num

theorem ofBits_top : Ideal.ofBits .f32 0x7F800000#32 = ⊤ := by
  simp [Ideal.ofBits, Ideal.ieee]

theorem ofBits_bot : Ideal.ofBits .f32 0xFF800000#32 = ⊥ := by
  simp [Ideal.ofBits, Ideal.ieee]

/-- The constant that keeps the mean square of a key off zero. -/
def eps : EReal := Ideal.ofBits .f32 0x358637BD#32
/-- The constant factor of a key: one over the square root of 96, rounded. -/
def scale : EReal := Ideal.ofBits .f32 0x3DD105EC#32

theorem eps_pos : 0 < eps := by
  unfold eps
  simp [Ideal.ofBits, Ideal.ieee]
  rw [← EReal.coe_mul]; exact EReal.coe_pos.mpr (by positivity)

theorem scale_nonneg : 0 ≤ scale := by
  unfold scale
  simp [Ideal.ofBits, Ideal.ieee]
  rw [← EReal.coe_mul]; exact EReal.coe_nonneg.mpr (by positivity)

/-! ## Selections by comparisons of words -/

theorem select_eq {α : Type} {w : ℕ} (a b : BitVec w) (x y : α) : Scalar.select (IntOp.cmpi .eq a b) x y = if a = b then x else y := by
  by_cases h : a = b
  · subst h; simp [Scalar.select, IntOp.cmpi]
  · have e : (a == b) = false := beq_eq_false_iff_ne.mpr h
    simp [Scalar.select, IntOp.cmpi, h, e]

theorem select_ne {α : Type} {w : ℕ} (a b : BitVec w) (x y : α) : Scalar.select (IntOp.cmpi .ne a b) x y = if a ≠ b then x else y := by
  by_cases h : a = b
  · subst h; simp [Scalar.select, IntOp.cmpi]
  · have e : (a == b) = false := beq_eq_false_iff_ne.mpr h
    simp [Scalar.select, IntOp.cmpi, h, e, bne]

theorem ofNat_eq_iff (a b : ℕ) (ha : a < 2 ^ 32) (hb : b < 2 ^ 32) : BitVec.ofNat 32 a = BitVec.ofNat 32 b ↔ a = b := by
  constructor
  · intro h
    have := congrArg BitVec.toNat h
    simp only [BitVec.toNat_ofNat] at this
    omega
  · rintro rfl; rfl

/-! ## The scores -/

/-- The factor of a key with the values `x` and the scale `q`. -/
def keyFactor (x : Fin 96 → EReal) (q : EReal) : EReal :=
  q * Ideal.rsqrt (q * q * ((∑ d, x d * x d) * ((1 / 96 : ℝ) : EReal)) + eps) * scale

theorem div_96 (x : EReal) : Ideal.div x ((96 : ℝ) : EReal) = x * ((1 / 96 : ℝ) : EReal) := by
  unfold Ideal.div
  rw [if_neg (by norm_num), ← EReal.coe_inv, one_div]

theorem rsqrt_nonneg {x : EReal} (h : 0 < x) : 0 ≤ Ideal.rsqrt x := by
  induction x with
  | bot => exact absurd h (by simp)
  | top => exact le_refl _
  | coe r =>
    have hr : 0 < r := EReal.coe_pos.mp h
    show (0 : EReal) ≤ if r < 0 then ⊥ else if r = 0 then ⊤ else (((Real.sqrt r)⁻¹ : ℝ) : EReal)
    rw [if_neg (not_lt.mpr hr.le), if_neg hr.ne']
    exact EReal.coe_nonneg.mpr (inv_nonneg.mpr (Real.sqrt_nonneg r))

theorem square_nonneg (x : EReal) : 0 ≤ x * x := by
  rcases le_total 0 x with h | h
  · exact mul_nonneg h h
  · rw [← neg_mul_neg]
    exact mul_nonneg (EReal.neg_nonneg.mpr h) (EReal.neg_nonneg.mpr h)

/-- A position's own score is at least zero before the mask. -/
theorem own_nonneg (x : Fin 96 → EReal) (q : EReal) : 0 ≤ (∑ d, x d * x d) * q * keyFactor x q := by
  have hs : 0 ≤ ∑ d, x d * x d := Finset.sum_nonneg fun d _ => square_nonneg _
  have h96 : (0 : EReal) ≤ ((1 / 96 : ℝ) : EReal) := EReal.coe_nonneg.mpr (by norm_num)
  have hr : 0 ≤ Ideal.rsqrt (q * q * ((∑ d, x d * x d) * ((1 / 96 : ℝ) : EReal)) + eps) :=
    rsqrt_nonneg (lt_of_lt_of_le eps_pos (le_add_of_nonneg_left (mul_nonneg (square_nonneg q) (mul_nonneg hs h96))))
  unfold keyFactor
  generalize Ideal.rsqrt _ = R at hr
  rw [show (∑ d, x d * x d) * q * (q * R * scale) = ((∑ d, x d * x d) * (q * q)) * (R * scale) by ac_rfl]
  exact mul_nonneg (mul_nonneg hs (square_nonneg q)) (mul_nonneg hr scale_nonneg)

/-- The `k`-th of the positions that sorted position `i` attends to: the chunk of 64 before its own, its own, the next. -/
def win (i : Fin 512) (k : Fin 192) : Fin 512 := ⟨(i.val / 64 + 7 + k.val / 64) % 8 * 64 + k.val % 64, by omega⟩

/-- The position that row `r` of a tile's scores is of, for the tile that holds sorted position `i`: the next tile's
    first half, the previous tile's second half, the tile itself. -/
def row (i : Fin 512) (r : Fin 256) : Fin 512 :=
  ⟨if r.val < 64 then (i.val / 128 + 1) % 4 * 128 + r.val else if r.val < 128 then (i.val / 128 + 3) % 4 * 128 + r.val else i.val / 128 * 128 + (r.val - 128), by
    split_ifs <;> omega⟩

/-- The row of the kernel's scores at which the reference's `k`-th position stands. -/
def place (i : Fin 512) (k : Fin 192) : Fin 256 :=
  ⟨if i.val % 128 < 64 then k.val + 64 else if k.val < 128 then k.val + 128 else k.val - 128, by split_ifs <;> omega⟩

theorem row_place (i : Fin 512) (k : Fin 192) : row i (place i k) = win i k := by
  apply Fin.ext
  simp only [row, place, win]
  split_ifs <;> omega

theorem place_injective (i : Fin 512) : Function.Injective (place i) := fun k k' h => by
  have := congrArg Fin.val h
  simp only [place] at this
  apply Fin.ext
  split_ifs at this <;> omega

/-- The cap of a score: −∞ outside the window, the self mask at the position itself, +∞ elsewhere. -/
def capAt (i : Fin 512) (r : Fin 256) : EReal :=
  if r.val < 128 then (if (r.val < 64 ↔ i.val % 128 < 64) then ⊥ else ⊤)
  else (if r.val - 128 = i.val % 128 then (((-100000) * (Real.log 2)⁻¹ : ℝ) : EReal) else ⊤)

theorem cap_out (i : Fin 512) (r : Fin 256) (h : ∀ k, place i k ≠ r) : capAt i r = ⊥ := by
  unfold capAt
  have hr : r.val < 128 ∧ (r.val < 64 ↔ i.val % 128 < 64) := by
    by_cases hc : i.val % 128 < 64
    · by_contra hn
      have : 64 ≤ r.val := by omega
      exact h ⟨r.val - 64, by omega⟩ (Fin.ext (by simp only [place, if_pos hc]; omega))
    · by_contra hn
      by_cases h1 : r.val < 64
      · exact h ⟨r.val + 128, by omega⟩ (Fin.ext (by simp only [place, if_neg hc]; rw [if_neg (by omega)]; omega))
      · exact h ⟨r.val - 128, by omega⟩ (Fin.ext (by simp only [place, if_neg hc]; rw [if_pos (by omega)]; omega))
  rw [if_pos hr.1, if_pos hr.2]

theorem cap_self (i : Fin 512) (k : Fin 192) (h : win i k = i) : capAt i (place i k) = (((-100000) * (Real.log 2)⁻¹ : ℝ) : EReal) := by
  have hv : (i.val / 64 + 7 + k.val / 64) % 8 * 64 + k.val % 64 = i.val := congrArg Fin.val h
  unfold capAt
  have h1 : ¬ (place i k).val < 128 := by simp only [place]; split_ifs <;> omega
  have h2 : (place i k).val - 128 = i.val % 128 := by simp only [place]; split_ifs <;> omega
  rw [if_neg h1, if_pos h2]

theorem cap_in (i : Fin 512) (k : Fin 192) (h : win i k ≠ i) : capAt i (place i k) = ⊤ := by
  have hv : (i.val / 64 + 7 + k.val / 64) % 8 * 64 + k.val % 64 ≠ i.val := fun e => h (Fin.ext e)
  unfold capAt
  by_cases h1 : (place i k).val < 128
  · rw [if_pos h1, if_neg]
    simp only [place] at h1 ⊢
    split_ifs at h1 ⊢ <;> omega
  · rw [if_neg h1, if_neg]
    simp only [place] at h1 ⊢
    split_ifs at h1 ⊢ <;> omega

/-- The reference's score of position `j` at position `i`. -/
def scoreRef (X : Fin 96 → Fin 512 → EReal) (Q : Fin 512 → EReal) (B P : Fin 512 → BitVec 32) (i j : Fin 512) : EReal :=
  if P i = P j then ((-100000 : ℝ) : EReal)
  else if B i ≠ B j then ⊥
  else (∑ d, X d i * X d j) * Q i * keyFactor (fun d => X d j) (Q j)

/-- The kernel's score, at row `r` of the tile that holds position `i`. -/
def scoreKer (X : Fin 96 → Fin 512 → EReal) (Q : Fin 512 → EReal) (B : Fin 512 → BitVec 32) (i : Fin 512) (r : Fin 256) : EReal :=
  if B (row i r) = B i then
    min ((∑ d, X d (row i r) * X d i) * (keyFactor (fun d => X d (row i r)) (Q (row i r)) * (((Real.log 2)⁻¹ : ℝ) : EReal)) * Q i) (capAt i r)
  else ⊥

theorem scoreKer_out (X : Fin 96 → Fin 512 → EReal) (Q : Fin 512 → EReal) (B : Fin 512 → BitVec 32) (i : Fin 512) (r : Fin 256)
    (h : ∀ k, place i k ≠ r) : scoreKer X Q B i r = ⊥ := by
  unfold scoreKer
  rw [cap_out i r h, min_bot_right, ite_self]

theorem scoreKer_in (X : Fin 96 → Fin 512 → EReal) (Q : Fin 512 → EReal) (B P : Fin 512 → BitVec 32) (hP : Function.Injective P)
    (i : Fin 512) (k : Fin 192) :
    scoreKer X Q B i (place i k) = (((Real.log 2)⁻¹ : ℝ) : EReal) * scoreRef X Q B P i (win i k) := by
  unfold scoreKer scoreRef
  rw [row_place]
  by_cases h : win i k = i
  · rw [cap_self i k h, h, if_pos rfl, if_pos rfl, ← EReal.coe_mul, mul_comm (-100000 : ℝ)]
    refine min_eq_right ?_
    have h0 := own_nonneg (fun d => X d i) (Q i)
    have hL : (0 : EReal) ≤ (((Real.log 2)⁻¹ : ℝ) : EReal) := EReal.coe_nonneg.mpr log2_pos.le
    have hX : (0 : EReal) ≤ (∑ d, X d i * X d i) * (keyFactor (fun d => X d i) (Q i) * (((Real.log 2)⁻¹ : ℝ) : EReal)) * Q i := by
      rw [show (∑ d, X d i * X d i) * (keyFactor (fun d => X d i) (Q i) * (((Real.log 2)⁻¹ : ℝ) : EReal)) * Q i
        = (((∑ d, X d i * X d i) * Q i * keyFactor (fun d => X d i) (Q i)) * (((Real.log 2)⁻¹ : ℝ) : EReal)) by ac_rfl]
      exact mul_nonneg h0 hL
    refine le_trans ?_ hX
    rw [← EReal.coe_zero, EReal.coe_le_coe_iff]
    have := log2_pos
    nlinarith
  · rw [cap_in i k h, min_top_right, if_neg (fun e => h (hP e).symm)]
    by_cases hb : B (win i k) = B i
    · rw [if_pos hb, if_neg (not_not.mpr hb.symm)]
      rw [Finset.sum_congr rfl fun d _ => mul_comm (X d (win i k)) (X d i)]
      ac_rfl
    · rw [if_neg hb, if_pos (fun e => hb e.symm), EReal.coe_mul_bot_of_pos log2_pos]

/-! ## One element of the attention -/

/-- The reference's attention at sorted position `i`, from the sorted values `v` of one column and their scales `S`. -/
def attnRef (X : Fin 96 → Fin 512 → EReal) (v : Fin 512 → EReal) (Q S : Fin 512 → EReal) (B P : Fin 512 → BitVec 32) (i : Fin 512) : EReal :=
  ∑ k : Fin 192, ((Ideal.exp (scoreRef X Q B P i (win i k) - Finset.univ.fold max ⊥ fun k : Fin 192 => scoreRef X Q B P i (win i k))
    * Ideal.div 1 (∑ k : Fin 192, Ideal.exp (scoreRef X Q B P i (win i k) - Finset.univ.fold max ⊥ fun k : Fin 192 => scoreRef X Q B P i (win i k)))) * S (win i k)) * v (win i k)

/-- The kernel's. -/
def attnKer (X : Fin 96 → Fin 512 → EReal) (v : Fin 512 → EReal) (Q S : Fin 512 → EReal) (B : Fin 512 → BitVec 32) (i : Fin 512) : EReal :=
  (∑ r : Fin 256, (v (row i r) * S (row i r)) * Ideal.exp2 (scoreKer X Q B i r - Finset.univ.fold max ⊥ fun r : Fin 256 => scoreKer X Q B i r))
    * Ideal.div 1 (∑ r : Fin 256, Ideal.exp2 (scoreKer X Q B i r - Finset.univ.fold max ⊥ fun r : Fin 256 => scoreKer X Q B i r))

/-- They are one: distinct positions have distinct numbers in `P`. -/
theorem attn_eq (X : Fin 96 → Fin 512 → EReal) (v : Fin 512 → EReal) (Q S : Fin 512 → EReal) (B P : Fin 512 → BitVec 32)
    (hP : Function.Injective P) (i : Fin 512) : attnKer X v Q S B i = attnRef X v Q S B P i := by
  refine mixture_eq (place i) (place_injective i) (fun k => scoreRef X Q B P i (win i k)) (fun r => scoreKer X Q B i r)
    (fun k => v (win i k)) (fun k => S (win i k)) (fun r => v (row i r) * S (row i r))
    (fun k => scoreKer_in X Q B P hP i k) (fun r hr => scoreKer_out X Q B i r hr) (fun k => by rw [row_place])
    ⟨64 + i.val % 64, by omega⟩ ?_
  have h : win i ⟨64 + i.val % 64, by omega⟩ = i := Fin.ext (by simp only [win]; omega)
  unfold scoreRef
  rw [h, if_pos rfl]
  exact EReal.coe_ne_bot _

end Cert.Core

end
-- ==== Proof.KTile.lean ====
/- Over the extended reals, the entries of the pieces one tile of one head is made of: the key factors, the caps, the
   masked scores, the weights, the window of values and the weighted mixture. -/
module

public import proofs.«01_k».proof.Proof.KSpec
public import proofs.«01_k».proof.Proof.Score
public import Idealize.ShloMosaic.Lib.Pointwise

@[expose] public section

set_option maxRecDepth 16384
set_option synthInstance.maxSize 4096

noncomputable section

namespace Cert.KernelIdeal.Spec

open Cert.KernelIdeal Cert.KernelIdeal.Gen Idealize.ShloMosaic

/-! ## Selections by comparisons -/

theorem cmpi_slt_64 (n : ℕ) (h : n < 128) : IntOp.cmpi .slt (BitVec.ofNat 32 n) 64#32 = BitVec.ofBool (decide (n < 64)) := by
  revert n; decide

theorem named_inv_dh (b : BitVec 32) : (Named.named (F := Idealize.ShloMosaic.Ideal) (φ := .f32) κ "inv_dh" b : EReal) = ((1 / 96 : ℝ) : EReal) :=
  IdealRules.named_const.ideal_named_scalar _ _ _ _ rfl

theorem named_log2_e (b : BitVec 32) : (Named.named (F := Idealize.ShloMosaic.Ideal) (φ := .f32) κ "log2_e" b : EReal) = (((Real.log 2)⁻¹ : ℝ) : EReal) :=
  IdealRules.named_const.ideal_named_scalar _ _ _ _ rfl

theorem named_bucket (b : BitVec 32) : (Named.named (F := Idealize.ShloMosaic.Ideal) (φ := .f32) κ "bucket_mask" b : EReal) = ⊥ :=
  IdealRules.named_const.ideal_named_scalar _ _ _ _ rfl

theorem named_self (b : BitVec 32) : (Named.named (F := Idealize.ShloMosaic.Ideal) (φ := .f32) κ "self_mask" b : EReal) = (((-100000) * (Real.log 2)⁻¹ : ℝ) : EReal) :=
  IdealRules.named_const.ideal_named_scalar _ _ _ _ rfl

theorem rowSq_at (q : Vec Ideal S1x1x96x512 .fp8e4m3) (c : Fin 512) :
    rowSq q (ix2 (0 : Fin 1) c) = ∑ d : Fin 96, q (ix4 (0 : Fin 1) (0 : Fin 1) d c) * q (ix4 (0 : Fin 1) (0 : Fin 1) d c) := by
  pointwise [rowSq]

theorem keyFactor_at (r : Fin 8 → FVec Ideal S1x512 .f32) (sc : Vec Ideal S1x8x512 .f32) (h : Fin 8) (c : Fin 512) :
    keyFactor r sc (ix2 h c) = sc (ix3 (0 : Fin 1) h c) * Ideal.rsqrt (sc (ix3 (0 : Fin 1) h c) * sc (ix3 (0 : Fin 1) h c) * (r h (ix2 (0 : Fin 1) c) * ((1 / 96 : ℝ) : EReal)) + Core.eps) * Core.scale * (((Real.log 2)⁻¹ : ℝ) : EReal) := by
  pointwise [keyFactor]
  have e : ∀ (h' : Fin 8) (z : Fin 1), h' = h → r h' (ix2 z c) = r h (ix2 (0 : Fin 1) c) := by
    rintro h' z rfl
    rw [Subsingleton.elim z 0]
  fin_vals h with hh
  all_goals
    simp only [hh, Nat.reduceSub, Nat.reduceLT, ↓reduceDIte]
    rw [e _ _ (Fin.ext hh.symm)]
    erw [named_inv_dh, named_log2_e]
    rfl

theorem cap_at (i : Fin 512) (r : Fin 256) (c : Fin 128) (hc : c.val = i.val % 128) :
    cap (F := Ideal) (ix2 r c) = Core.capAt i r := by
  pointwise [cap]
  erw [named_bucket, named_self]
  unfold Core.capAt
  rw [show Ideal.ofBits .f32 2139095040#32 = ⊤ from Core.ofBits_top, ← hc]
  by_cases hr : r.val < 128
  · rw [dif_pos hr, if_pos hr, cmpi_slt_64 _ hr, cmpi_slt_64 _ c.isLt]
    by_cases h1 : r.val < 64 <;> by_cases h2 : c.val < 64 <;> simp [h1, h2, IntOp.xori, Scalar.select]
  · rw [dif_neg hr, if_neg hr, Core.select_eq]
    simp only [Core.ofNat_eq_iff _ _ (show r.val - 128 < 2 ^ 32 by omega) (show c.val < 2 ^ 32 by omega)]

theorem window_at (t : Fin 4) (vt : FVec Ideal S96x512 .bf16) (d : Fin 96) (r : Fin 256) (i : Fin 512) (hi : i.val / 128 = t) :
    window t vt (ix2 d r) = vt (ix2 d (Core.row i r)) := by
  pointwise [window]
  by_cases hr : r.val < 128
  · rw [dif_pos hr, cmpi_slt_64 _ hr]
    by_cases h1 : r.val < 64
    · simp only [h1, decide_true, BitVec.ofBool_true, Scalar.select]
      exact congrArg (fun j => vt (ix2 d j)) (Fin.ext (by simp only [Core.row, hi, nx]; rw [if_pos h1]))
    · simp only [h1, decide_false, BitVec.ofBool_false, Scalar.select]
      exact congrArg (fun j => vt (ix2 d j)) (Fin.ext (by simp only [Core.row, hi, pv0]; rw [if_neg h1, if_pos hr]))
  · rw [dif_neg hr]
    exact congrArg (fun j => vt (ix2 d j)) (Fin.ext (by simp only [Core.row, hi, own]; rw [if_neg (by omega), if_neg hr]))

theorem mixture_at (w : FVec Ideal S96x256 .bf16) (e : FVec Ideal S256x128 .f32) (d : Fin 96) (c : Fin 128) :
    mixture w e (ix2 d c) = (∑ r : Fin 256, w (ix2 d r) * e (ix2 r c)) * Ideal.div 1 (∑ r : Fin 256, e (ix2 r c)) := by
  pointwise [mixture]

theorem weights_at (s : FVec Ideal S256x128 .f32) (r : Fin 256) (c : Fin 128) :
    weights s (ix2 r c) = Ideal.exp2 (s (ix2 r c) - Finset.univ.fold max ⊥ fun r : Fin 256 => s (ix2 r c)) := by
  pointwise [weights]
  rw [show Ideal.ofBits .f32 4286578688#32 = ⊥ from Core.ofBits_bot]
  rfl

theorem scores_at (h : Fin 8) (t : Fin 4) (KF QF : FVec Ideal S8x512 .f32) (BK : IVec S8x512 32) (k : FVec Ideal S512x96 .fp8e4m3) (qt : FVec Ideal S96x512 .fp8e4m3)
    (r : Fin 256) (c : Fin 128) (i : Fin 512) (hi : i.val / 128 = t) (hc : c.val = i.val % 128) :
    scores h t KF QF BK k qt (ix2 r c) = if BK (ix2 h (Core.row i r)) = BK (ix2 h i) then
      min ((∑ d : Fin 96, k (ix2 (Core.row i r) d) * qt (ix2 d i)) * KF (ix2 h (Core.row i r)) * QF (ix2 h i)) (Core.capAt i r) else ⊥ := by
  pointwise [scores]
  have hown : ∀ hn : own t + c.val < 512, (⟨own t + c.val, hn⟩ : Fin 512) = i := fun hn => Fin.ext (by simp only [own]; omega)
  simp only [hown]
  have hrow : ∀ (n : ℕ) (hn : n < 512), n = (Core.row i r).val → (⟨n, hn⟩ : Fin 512) = Core.row i r := fun n hn e => Fin.ext e
  rw [cap_at i r c hc]
  erw [named_bucket]
  rw [Core.select_eq]
  by_cases h1 : r.val < 64
  · have e := fun hn => hrow (nx t + r.val) hn (by simp only [Core.row, hi, nx]; rw [if_pos h1])
    simp only [h1, ↓reduceDIte, e]
  · by_cases h2 : r.val - 64 < 64
    · have e := fun hn => hrow (pv t + (r.val - 64)) hn (by simp only [Core.row, hi, pv]; rw [if_neg h1, if_pos (by omega)]; omega)
      simp only [h1, h2, ↓reduceDIte, e]
    · have e := fun hn => hrow (own t + (r.val - 64 - 64)) hn (by simp only [Core.row, hi, own]; rw [if_neg h1, if_neg (by omega)]; omega)
      simp only [h1, h2, ↓reduceDIte, e]

end Cert.KernelIdeal.Spec
end
-- ==== Proof.KSort.lean ====
/- The kernel's ways of moving data by the permutation, entry by entry: the gather along the lanes, the one-hot matrix
   built from packed bytes, and the dot with it that sorts the queries and the values. -/
module

public import proofs.«01_k».proof.Proof.KSpec
public import proofs.«01_k».proof.Proof.Score
public import Idealize.ShloMosaic.Lib.Pointwise
public import Idealize.ShloMosaic.Lib.BitcastPair

@[expose] public section

set_option maxRecDepth 16384
set_option synthInstance.maxSize 4096

noncomputable section

namespace Cert.KernelIdeal.Spec

open Cert.KernelIdeal Cert.KernelIdeal.Gen Idealize.ShloMosaic

theorem lane_word (n : Fin 128) : (Scalar.select (IntOp.cmpi .slt (BitVec.ofNat 32 n.val) 0#32) (IntOp.addi (BitVec.ofNat 32 n.val) 128#32) (BitVec.ofNat 32 n.val)).toNat % 128 = n.val := by
  revert n; decide +kernel

theorem gatherBlk_at {α : Type} (x : S8x512.Idx → α) (hi lo : IVec S8x128 32) (h : Fin 8) (c : Fin 128) (r : Fin 512)
    (hhi : hi (ix2 h c) = BitVec.ofNat 32 (r.val / 128)) (hlo : lo (ix2 h c) = BitVec.ofNat 32 (r.val % 128)) :
    gatherBlk x hi lo (ix2 h c) = x (ix2 h r) := by
  pointwise [gatherBlk]
  have e := lane_word ⟨r.val % 128, by omega⟩
  simp only [] at e
  simp only [hhi, hlo, e]
  have hr : r.val / 128 = 0 ∨ r.val / 128 = 1 ∨ r.val / 128 = 2 ∨ r.val / 128 = 3 := by omega
  have key : ∀ (t : Fin 4) (hn : own t + r.val % 128 < 512), r.val / 128 = t.val → x (ix2 h ⟨own t + r.val % 128, hn⟩) = x (ix2 h r) := fun t hn ht =>
    congrArg (fun j => x (ix2 h j)) (Fin.ext (by simp only [own]; omega))
  rcases hr with hr | hr | hr | hr <;> rw [hr]
  · exact key 0 _ hr
  · exact key 1 _ hr
  · exact key 2 _ hr
  · exact key 3 _ hr

theorem hi_word (r : Fin 512) : IntOp.shrsi .vector (BitVec.ofNat 32 r.val) 7#32 = BitVec.ofNat 32 (r.val / 128) := by
  revert r; decide +kernel

theorem lo_word (r : Fin 512) : IntOp.andi (BitVec.ofNat 32 r.val) 127#32 = BitVec.ofNat 32 (r.val % 128) := by
  revert r; decide +kernel

theorem gatherAt_at {α : Type} (x : S8x512.Idx → α) (p : IVec S8x512 32) (t : Fin 4) (h : Fin 8) (c : Fin 128) (r i : Fin 512) (hi : i.val = own t + c.val)
    (hp : p (ix2 h i) = BitVec.ofNat 32 r.val) : gatherAt x p t (ix2 h c) = x (ix2 h r) := by
  have hp' : ∀ hn : own t + c.val < 512, p (ix2 h ⟨own t + c.val, hn⟩) = BitVec.ofNat 32 r.val := fun hn => by
    rw [← hp]; exact congrArg (fun j => p (ix2 h j)) (Fin.ext hi.symm)
  unfold gatherAt
  refine gatherBlk_at x _ _ h c r ?_ ?_
  · pointwise
    rw [hp']
    exact hi_word r
  · pointwise
    rw [hp']
    exact lo_word r

theorem gatherLanes_at {α : Type} (x : S8x512.Idx → α) (p : IVec S8x512 32) (h : Fin 8) (c : Fin 512) (r : Fin 512)
    (hp : p (ix2 h c) = BitVec.ofNat 32 r.val) :
    gatherLanes x p (ix2 h c) = x (ix2 h r) := by
  have e : ∀ (t : Fin 4) (n : ℕ) (hn : n < 128), c.val = own t + n → gatherAt x p t (ix2 h (⟨n, hn⟩ : Fin 128)) = x (ix2 h r) :=
    fun t n hn hc => gatherAt_at x p t h ⟨n, hn⟩ r c hc hp
  pointwise [gatherLanes]
  generalize hg : gatherAt x p = g at e ⊢
  split
  · exact e 0 _ _ (by simp [own])
  · split
    · exact e 1 _ _ (by show c.val = 1 % 4 * 128 + (c.val - 128); omega)
    · split
      · exact e 2 _ _ (by show c.val = 2 % 4 * 128 + (c.val - 128 - 128); omega)
      · exact e 3 _ _ (by show c.val = 3 % 4 * 128 + (c.val - 128 - 128 - 128); omega)

/-! ## The one-hot matrix -/

theorem ofBits_8_one : Ideal.ofBits .fp8e4m3 56#8 = 1 := by
  simp [Ideal.ofBits, Ideal.e4m3fn]
  rw [← EReal.coe_mul]; norm_num

theorem ofBits_8_zero : Ideal.ofBits .fp8e4m3 0#8 = 0 := by
  simp [Ideal.ofBits, Ideal.e4m3fn]

/-- A 32-bit word read as bytes: row `r` of a column is byte `r % 4` of word row `r / 4`. -/
theorem bytes_at (x : IVec S128x512 32) (h : S128x512.Bitcasts 32 S512x512 8) (r c : Fin 512) :
    bitcast S512x512 8 x h (ix2 r c) = (x (ix2 (⟨r.val / 4, by omega⟩ : Fin 128) c)).extractLsb' (8 * (r.val % 4)) 8 := by
  apply BitVec.eq_of_getLsbD_eq
  intro i hi
  rw [bitcast_getLsbD x h (ix2 r c) i hi (by decide), BitVec.getLsbD_extractLsb']
  have hrow : S512x512.row (ix2 r c) = r.val := rfl
  have ep : (S512x512.row (ix2 r c) * 8 + i) / 32 = r.val / 4 := by rw [hrow]; omega
  have eq : (S512x512.row (ix2 r c) * 8 + i) % 32 = 8 * (r.val % 4) + i := by rw [hrow]; omega
  have hq : ∀ a : Fin S128x512.rank, a.val + 2 = S128x512.rank → r.val / 4 < S128x512.size a := fun a ha => by
    rw [← ep]; exact (Nat.div_lt_iff_lt_mul (by decide)).2 (h.pos_lt _ i hi a ha)
  have hs : h.srcIdx (ix2 r c) (r.val / 4) hq = ix2 (⟨r.val / 4, by omega⟩ : Fin 128) c := by
    funext a
    match a with
    | ⟨0, _⟩ => exact Fin.ext (h.srcIdx_row _ _ _ ⟨0, Nat.zero_lt_two⟩ rfl)
    | ⟨1, _⟩ => exact Fin.ext (h.srcIdx_other _ _ _ ⟨1, Nat.one_lt_two⟩ (by show ¬ 1 + 2 = 2; omega))
  rw [h.srcIdx_congr (ix2 r c) ep _ hq, hs, eq]
  simp [hi]

theorem quarter_word (r : Fin 512) : IntOp.shrsi .vector (BitVec.ofNat 32 r.val) 2#32 = BitVec.ofNat 32 (r.val / 4) := by
  revert r; decide +kernel

theorem byte_word (s : Fin 512) : IntOp.shli .vector 56#32 (IntOp.muli (IntOp.andi (BitVec.ofNat 32 s.val) 3#32) 8#32) = 56#32 <<< (8 * (s.val % 4)) := by
  revert s; decide +kernel

theorem byte_at (k s : Fin 4) : (56#32 <<< (8 * s.val)).extractLsb' (8 * k.val) 8 = if k = s then 56#8 else 0#8 := by
  revert k s; decide

theorem onehot_at (h : Fin 8) (p : IVec S8x512 32) (r c s : Fin 512) (hp : p (ix2 h c) = BitVec.ofNat 32 s.val) :
    onehot (F := Ideal) h p (ix2 r c) = if r = s then 1 else 0 := by
  unfold onehot
  show Ideal.ofBits .fp8e4m3 (bitcast S512x512 8 _ _ (ix2 r c)) = _
  rw [bytes_at]
  pointwise
  have hq : IntOp.cmpi .eq (BitVec.ofNat 32 (r.val / 4)) (BitVec.ofNat 32 (s.val / 4)) = BitVec.ofBool (decide (r.val / 4 = s.val / 4)) := by
    have e := Core.ofNat_eq_iff (r.val / 4) (s.val / 4) (by omega) (by omega)
    by_cases h : r.val / 4 = s.val / 4
    · rw [h]; simp [IntOp.cmpi]
    · have hn : (BitVec.ofNat 32 (r.val / 4) == BitVec.ofNat 32 (s.val / 4)) = false := beq_eq_false_iff_ne.mpr fun he => h (e.mp he)
      simp [IntOp.cmpi, h, hn]
  rw [hp, quarter_word, byte_word, hq]
  have hb := byte_at ⟨r.val % 4, by omega⟩ ⟨s.val % 4, by omega⟩
  simp only [Fin.mk.injEq] at hb
  by_cases h4 : r.val / 4 = s.val / 4
  · simp only [h4, decide_true, BitVec.ofBool_true, Scalar.select, ↓reduceIte]
    rw [hb]
    by_cases hm : r.val % 4 = s.val % 4
    · rw [if_pos hm, if_pos (Fin.ext (by omega))]; exact ofBits_8_one
    · rw [if_neg hm, if_neg (fun e : r = s => hm (by rw [e]))]; exact ofBits_8_zero
  · simp only [h4, decide_false, BitVec.ofBool_false, Scalar.select]
    rw [if_neg (fun e : r = s => h4 (by rw [e]))]
    exact (congrArg (Ideal.ofBits .fp8e4m3) (by simp)).trans ofBits_8_zero

theorem sorted_at (q v : Vec Ideal S1x1x96x512 .fp8e4m3) (oh : FVec Ideal S512x512 .fp8e4m3) (e : Fin 192) (c : Fin 512) :
    sorted q v oh (ix2 e c) = ∑ k : Fin 512, (if h : e.val < 96 then q (ix4 (0 : Fin 1) (0 : Fin 1) (⟨e.val, h⟩ : Fin 96) k) else v (ix4 (0 : Fin 1) (0 : Fin 1) (⟨e.val - 96, by omega⟩ : Fin 96) k)) * oh (ix2 k c) := by
  pointwise [sorted]

end Cert.KernelIdeal.Spec
end
-- ==== Proof.KHead.lean ====
/- One head of the kernel, over the extended reals: the attention of Score.lean at every position of the head. -/
module

public import proofs.«01_k».proof.Proof.KTile
public import proofs.«01_k».proof.Proof.KSort

@[expose] public section

set_option maxRecDepth 16384
set_option synthInstance.maxSize 4096

noncomputable section

namespace Cert.KernelIdeal.Spec

open Cert.KernelIdeal Cert.KernelIdeal.Gen Idealize.ShloMosaic

/-- A dot with a column of the one-hot matrix picks one entry. -/
theorem pick (f g : Fin 512 → EReal) (s : Fin 512) (hg : ∀ k, g k = if k = s then 1 else 0) : ∑ k, f k * g k = f s := by
  rw [Finset.sum_eq_single s]
  · rw [hg, if_pos rfl, mul_one]
  · intro k _ hk
    rw [hg, if_neg hk, mul_zero]
  · intro h; exact absurd (Finset.mem_univ s) h

theorem keys_at (x : FVec Ideal S192x512 .f32) (j : Fin 512) (d : Fin 96) : keys x (ix2 j d) = x (ix2 (⟨d.val, by omega⟩ : Fin 192) j) := by
  pointwise [keys]

theorem queries_at (x : FVec Ideal S192x512 .f32) (d : Fin 96) (j : Fin 512) : queries x (ix2 d j) = x (ix2 (⟨d.val, by omega⟩ : Fin 192) j) := by
  pointwise [queries]

theorem values_at (h : Fin 8) (VS : FVec Ideal S8x512 .f32) (x : FVec Ideal S192x512 .f32) (d : Fin 96) (j : Fin 512) :
    values h VS x (ix2 d j) = x (ix2 (⟨96 + d.val, by omega⟩ : Fin 192) j) * VS (ix2 h j) := by
  pointwise [values]

/-- One tile, at the lane of sorted position `i`. -/
theorem tile_at (h : Fin 8) (t : Fin 4) (KF QF VS : FVec Ideal S8x512 .f32) (BK : IVec S8x512 32) (x : FVec Ideal S192x512 .f32)
    (X : Fin 96 → Fin 512 → EReal) (v : Fin 512 → EReal) (Q S : Fin 512 → EReal) (B : Fin 512 → BitVec 32) (d : Fin 96)
    (hX : ∀ d j, x (ix2 (⟨d.val, by omega⟩ : Fin 192) j) = X d j) (hv : ∀ j, x (ix2 (⟨96 + d.val, by omega⟩ : Fin 192) j) = v j)
    (hK : ∀ j, KF (ix2 h j) = Core.keyFactor (fun d => X d j) (Q j) * (((Real.log 2)⁻¹ : ℝ) : EReal))
    (hQ : ∀ j, QF (ix2 h j) = Q j) (hS : ∀ j, VS (ix2 h j) = S j) (hB : ∀ j, BK (ix2 h j) = B j)
    (c : Fin 128) (i : Fin 512) (hi : i.val = t.val * 128 + c.val) :
    tile h t KF QF BK (keys x) (queries x) (values h VS x) (ix2 d c) = Core.attnKer X v Q S B i := by
  have ht : i.val / 128 = t.val := by omega
  have hc : c.val = i.val % 128 := by omega
  have hs : ∀ r : Fin 256, scores h t KF QF BK (keys x) (queries x) (ix2 r c) = Core.scoreKer X Q B i r := by
    intro r
    rw [scores_at h t KF QF BK _ _ r c i ht hc]
    simp only [keys_at, queries_at, hX, hK, hQ, hB]
    rfl
  unfold tile Core.attnKer
  rw [mixture_at]
  simp only [window_at t _ d _ i ht, weights_at, values_at, hs, hv, hS]

/-- One head in sorted order. -/
theorem attended_at (h : Fin 8) (KF QF VS : FVec Ideal S8x512 .f32) (BK : IVec S8x512 32) (x : FVec Ideal S192x512 .f32)
    (X : Fin 96 → Fin 512 → EReal) (v : Fin 512 → EReal) (Q S : Fin 512 → EReal) (B : Fin 512 → BitVec 32) (d : Fin 96)
    (hX : ∀ d j, x (ix2 (⟨d.val, by omega⟩ : Fin 192) j) = X d j) (hv : ∀ j, x (ix2 (⟨96 + d.val, by omega⟩ : Fin 192) j) = v j)
    (hK : ∀ j, KF (ix2 h j) = Core.keyFactor (fun d => X d j) (Q j) * (((Real.log 2)⁻¹ : ℝ) : EReal))
    (hQ : ∀ j, QF (ix2 h j) = Q j) (hS : ∀ j, VS (ix2 h j) = S j) (hB : ∀ j, BK (ix2 h j) = B j)
    (i : Fin 512) :
    attended h KF QF VS BK x (ix2 d i) = Core.attnKer X v Q S B i := by
  have e : ∀ (t : Fin 4) (n : ℕ) (hn : n < 128), i.val = t.val * 128 + n → tile h t KF QF BK (keys x) (queries x) (values h VS x) (ix2 d (⟨n, hn⟩ : Fin 128)) = Core.attnKer X v Q S B i :=
    fun t n hn hi => tile_at h t KF QF VS BK x X v Q S B d hX hv hK hQ hS hB ⟨n, hn⟩ i hi
  pointwise [attended]
  generalize hg : (fun t => tile h t KF QF BK (keys x) (queries x) (values h VS x)) = g
  have hg' : ∀ t, tile h t KF QF BK (keys x) (queries x) (values h VS x) = g t := fun t => congrFun hg t
  simp only [hg'] at e ⊢
  split
  · exact e 0 _ _ (by show i.val = 0 * 128 + i.val; omega)
  · split
    · exact e 1 _ _ (by show i.val = 1 * 128 + (i.val - 128); omega)
    · split
      · exact e 2 _ _ (by show i.val = 2 * 128 + (i.val - 128 - 128); omega)
      · exact e 3 _ _ (by show i.val = 3 * 128 + (i.val - 128 - 128 - 128); omega)

/-- One head in the original order: at position `σ i`, the attention at sorted position `i`. -/
theorem headOf_at (h : Fin 8) (q v : Fin 8 → Vec Ideal S1x1x96x512 .fp8e4m3) (ks vs : Vec Ideal S1x8x512 .f32) (bk pm : Vec Ideal S1x8x512 .i32)
    (σ : Fin 512 → Fin 512) (hσ : Function.Injective σ) (hp : ∀ c, pm (ix3 (0 : Fin 1) h c) = BitVec.ofNat 32 (σ c).val) (d : Fin 96) (i : Fin 512) :
    headOf h q v ks vs bk pm (ix2 d (σ i)) = Core.attnKer (fun d j => q h (ix4 (0 : Fin 1) (0 : Fin 1) d (σ j))) (fun j => v h (ix4 (0 : Fin 1) (0 : Fin 1) d (σ j)))
      (fun j => ks (ix3 (0 : Fin 1) h (σ j))) (fun j => vs (ix3 (0 : Fin 1) h (σ j))) (fun j => bk (ix3 (0 : Fin 1) h (σ j))) i := by
  unfold headOf
  have hp' : ∀ c, (shapeCast S8x512 pm shapeCasts_S1x8x512_S8x512 : IVec S8x512 32) (ix2 h c) = BitVec.ofNat 32 (σ c).val := by
    intro c
    pointwise
    exact hp c
  generalize (shapeCast S8x512 pm shapeCasts_S1x8x512_S8x512 : IVec S8x512 32) = p at hp'
  have hoh : ∀ r c, onehot (F := Ideal) h p (ix2 r c) = if r = σ c then 1 else 0 := fun r c => onehot_at h p r c (σ c) (hp' c)
  have hsort : ∀ (e : Fin 192) c, sorted (q h) (v h) (onehot h p) (ix2 e c)
      = (if hh : e.val < 96 then q h (ix4 (0 : Fin 1) (0 : Fin 1) (⟨e.val, hh⟩ : Fin 96) (σ c)) else v h (ix4 (0 : Fin 1) (0 : Fin 1) (⟨e.val - 96, by omega⟩ : Fin 96) (σ c))) := by
    intro e c
    rw [sorted_at, pick _ _ (σ c) (fun k => hoh k c)]
  have hatt := attended_at h (gatherLanes (keyFactor (fun h => rowSq (q h)) ks) p) (gatherLanes (shapeCast S8x512 ks shapeCasts_S1x8x512_S8x512 : FVec Ideal S8x512 .f32) p)
    (gatherLanes (shapeCast S8x512 vs shapeCasts_S1x8x512_S8x512 : FVec Ideal S8x512 .f32) p) (gatherLanes (shapeCast S8x512 bk shapeCasts_S1x8x512_S8x512 : IVec S8x512 32) p)
    (sorted (q h) (v h) (onehot h p))
    (fun d j => q h (ix4 (0 : Fin 1) (0 : Fin 1) d (σ j))) (fun j => v h (ix4 (0 : Fin 1) (0 : Fin 1) d (σ j)))
      (fun j => ks (ix3 (0 : Fin 1) h (σ j))) (fun j => vs (ix3 (0 : Fin 1) h (σ j))) (fun j => bk (ix3 (0 : Fin 1) h (σ j))) d
    (fun d' j => by rw [hsort, dif_pos d'.isLt])
    (fun j => by
      rw [hsort, dif_neg (show ¬ 96 + d.val < 96 by omega)]
      exact congrArg (fun d' => v h (ix4 (0 : Fin 1) (0 : Fin 1) d' (σ j))) (Fin.ext (show 96 + d.val - 96 = d.val by omega)))
    (fun j => by
      rw [gatherLanes_at _ p h j (σ j) (hp' j), keyFactor_at]
      simp only [rowSq_at]
      rfl)
    (fun j => by rw [gatherLanes_at _ p h j (σ j) (hp' j)]; pointwise)
    (fun j => by rw [gatherLanes_at _ p h j (σ j) (hp' j)]; pointwise)
    (fun j => by rw [gatherLanes_at _ p h j (σ j) (hp' j)]; pointwise)
  unfold head
  generalize hA : attended (F := Ideal) h _ _ _ _ _ = A at hatt ⊢
  generalize onehot (F := Ideal) h p = O at hoh ⊢
  pointwise
  rw [pick (fun k => A (ix2 d k)) (fun k => O (ix2 (σ i) k)) i (fun k => by
    rw [hoh]
    by_cases hk : k = i
    · rw [hk, if_pos rfl, if_pos rfl]
    · rw [if_neg hk, if_neg (fun e => hk (hσ e).symm)])]
  exact hatt i

end Cert.KernelIdeal.Spec
end
-- ==== Proof.KOut.lean ====
/- The kernel's result array, each entry as the grid point that writes it leaves it. -/
module

public import proofs.«01_k».proof.Proof.KPieces
public import proofs.«01_k».proof.Proof.KHead

@[expose] public section

set_option maxRecDepth 16384
set_option synthInstance.maxSize 4096

noncomputable section

namespace Cert.KernelIdeal.Spec

open Cert.KernelIdeal Cert.KernelIdeal.Gen Idealize.ShloMosaic Idealize.ShloMosaic.TcCoe Idealize.ShloMosaic.Tactic

section General

variable {F : FTy → Type} [FloatOps F] [Named F]

/-- The eight heads of a block, one under the other. -/
def stacked (g : Fin 8 → FVec F S96x512 .bf16) : FVec F S768x512 .bf16 := fun y =>
  g ⟨(y 0).val / 96, by have : (y 0).val < 768 := (y 0).isLt; omega⟩ (ix2 (⟨(y 0).val % 96, by omega⟩ : Fin 96) (⟨(y 1).val, (y 1).isLt⟩ : Fin 512))

theorem stacked_emb (g : Fin 8 → FVec F S96x512 .bf16) (h : Fin 8) (x : (rowRect h).shape.Idx) : g h x = stacked g ((rowRect h).emb x) := by
  have h0 : ((rowRect h).emb x 0).val = h.val * 96 + (x 0).val := Rect.idx_unit_val _ _ _ x 0
  have h1 : ((rowRect h).emb x 1).val = 0 + (x 1).val := Rect.idx_unit_val _ _ _ x 1
  have x0 : (x 0).val < 96 := (x 0).isLt
  unfold stacked
  have e1 : ∀ hlt, (⟨((rowRect h).emb x 0).val / 96, hlt⟩ : Fin 8) = h := fun _ => Fin.ext (by show ((rowRect h).emb x 0).val / 96 = h.val; omega)
  rw [e1]
  refine congrArg (g h) (funext fun a => ?_)
  fin_cases a
  · exact Fin.ext (by show (x 0).val = ((rowRect h).emb x 0).val % 96; omega)
  · exact Fin.ext (by show (x 1).val = ((rowRect h).emb x 1).val; omega)

theorem stacked_cover (h : Fin 8) (y : S768x512.Idx) (hy : (y 0).val / 96 = h.val) : y ∈ (rowRect h).set := by
  obtain ⟨x, hx⟩ : ∃ x : (rowRect h).shape.Idx, x = ix2 (⟨(y 0).val - h.val * 96, by omega⟩ : Fin 96) (⟨(y 1).val, (y 1).isLt⟩ : Fin 512) := ⟨_, rfl⟩
  have h0 : ((rowRect h).emb x 0).val = h.val * 96 + (x 0).val := Rect.idx_unit_val _ _ _ x 0
  have h1 : ((rowRect h).emb x 1).val = 0 + (x 1).val := Rect.idx_unit_val _ _ _ x 1
  have x0 : (x 0).val = (y 0).val - h.val * 96 := by rw [hx]; rfl
  have x1 : (x 1).val = (y 1).val := by rw [hx]; rfl
  have e : (rowRect h).emb x = y := by
    funext a
    fin_cases a
    · exact Fin.ext (by show ((rowRect h).emb x 0).val = (y 0).val; omega)
    · exact Fin.ext (by show ((rowRect h).emb x 1).val = (y 1).val; omega)
  rw [← e]
  exact (rowRect h).toLoadRect.idx_mem x

/-- The eight heads' stores, read back whole. -/
theorem readCov_heads {sig' : RefSig} {κ' : Kind} {sp' : Space} (w : View sig' κ' sp' S768x512 .bf16) (g : Fin 8 → FVec F S96x512 .bf16) :
    w.readCov (Val := Elt F) [⟨rowRect 7, g 7⟩, ⟨rowRect 6, g 6⟩, ⟨rowRect 5, g 5⟩, ⟨rowRect 4, g 4⟩, ⟨rowRect 3, g 3⟩, ⟨rowRect 2, g 2⟩, ⟨rowRect 1, g 1⟩, ⟨rowRect 0, g 0⟩]
      (Rect.unit (s := S768x512) ![0, 0] S768x512.size inb_S768x512_S768x512_0_0).toLoadRect = stacked g := by
  have hc : View.canon (Val := Elt F) ([⟨rowRect 7, g 7⟩, ⟨rowRect 6, g 6⟩, ⟨rowRect 5, g 5⟩, ⟨rowRect 4, g 4⟩, ⟨rowRect 3, g 3⟩, ⟨rowRect 2, g 2⟩, ⟨rowRect 1, g 1⟩, ⟨rowRect 0, g 0⟩] : List (View.Piece (Elt F) S768x512 .bf16)) = stacked g := by
    funext y
    refine View.canon_apply_of_pieces (Val := Elt F) (e := .bf16) (stacked g) _ ?_ y ?_
    · simp only [List.forall_mem_cons, List.not_mem_nil, false_imp_iff, implies_true, and_true]
      exact ⟨stacked_emb g 7, stacked_emb g 6, stacked_emb g 5, stacked_emb g 4, stacked_emb g 3, stacked_emb g 2, stacked_emb g 1, stacked_emb g 0⟩
    · have hy : (y 0).val < 768 := (y 0).isLt
      obtain ⟨h, hh⟩ : ∃ h : Fin 8, (y 0).val / 96 = h.val := ⟨⟨(y 0).val / 96, by omega⟩, rfl⟩
      refine ⟨⟨rowRect h, g h⟩, ?_, stacked_cover h y hh⟩
      fin_cases h <;> simp
  rw [View.readCov_eq_canon', hc]
  funext y
  refine congrArg (stacked g) (funext fun a => Fin.ext ((Rect.idx_unit_val _ _ _ y a).trans ?_))
  fin_cases a
  · show 0 + (y 0).val = (y 0).val; omega
  · show 0 + (y 1).val = (y 1).val; omega

theorem finish_at (g : Fin 8 → FVec F S96x512 .bf16) (r : Fin 512) (h : Fin 8) (d : Fin 96) (e : Fin 768) (he : e.val = h.val * 96 + d.val) :
    k0_pay1 (transpose S512x768 [1, 0] (stacked g) transposes_S768x512_p1_0_S512x768) (ix3 (0 : Fin 1) r e) = g h (ix2 d r) := by
  have e1 : stacked g (ix2 e r) = g h (ix2 d r) := by
    unfold stacked
    have e1 : ∀ hlt, (⟨(ix2 e r 0).val / 96, hlt⟩ : Fin 8) = h := fun _ => Fin.ext (by show e.val / 96 = h.val; omega)
    have e2 : ∀ hlt, (⟨(ix2 e r 0).val % 96, hlt⟩ : Fin 96) = d := fun _ => Fin.ext (by show e.val % 96 = d.val; omega)
    rw [e1, e2]
    rfl
  rw [← e1]
  pointwise [k0_pay1]

/-- The block a grid point leaves, from its six input blocks. -/
theorem out_at (c : Dev nD) (i : grid0.Coords) (arg2 : Memref sig .tc .vmem S1x8x96x512 .fp8e4m3) (harg2 : arg2.IsWhole) (arg3 : Memref sig .tc .vmem S1x8x96x512 .fp8e4m3) (harg3 : arg3.IsWhole) (arg4 : Memref sig .tc .vmem S1x8x512 .f32) (harg4 : arg4.IsWhole) (arg5 : Memref sig .tc .vmem S1x8x512 .f32) (harg5 : arg5.IsWhole) (arg6 : Memref sig .tc .vmem S1x8x512 .i32) (harg6 : arg6.IsWhole) (arg7 : Memref sig .tc .vmem S1x8x512 .i32) (harg7 : arg7.IsWhole) (arg8 : Memref sig .tc .vmem S1x512x768 .bf16) (harg8 : arg8.IsWhole) (arg9 : Memref sig .tc .vmem S768x512 .bf16) (harg9 : arg9.IsWhole)
    (x0 : Vec F S1x8x96x512 .fp8e4m3) (x1 : Vec F S1x8x96x512 .fp8e4m3) (x2 : Vec F S1x8x512 .f32) (x3 : Vec F S1x8x512 .f32) (x4 : Vec F S1x8x512 .i32) (x5 : Vec F S1x8x512 .i32)
    (r : Fin 512) (h : Fin 8) (d : Fin 96) (e : Fin 768) (he : e.val = h.val * 96 + d.val) :
    out0_A_6 c i arg2 harg2 arg3 harg3 arg4 harg4 arg5 harg5 arg6 harg6 arg7 harg7 arg8 harg8 arg9 harg9 x0 x1 x2 x3 x4 x5 (ix3 (0 : Fin 1) r e)
      = headOf h (fun h => View.ld x0 (headRect h)) (fun h => View.ld x1 (headRect h)) x2 x3 x4 x5 (ix2 d r) := by
  have z3 : ∀ a : Fin 3, (![0, 0, 0] : Fin 3 → ℕ) a = 0 := by decide
  unfold out0_A_6
  rw [View.read_writes_junk_eq_canon, pieces_eq c i arg2 harg2 arg3 harg3 arg4 harg4 arg5 harg5 arg6 harg6 arg7 harg7 arg8 harg8 arg9 harg9 x0 x1 x2 x3 x4 x5
    (fun h => View.ld x0 (headRect h)) (fun h => View.ld x1 (headRect h)) x2 x3 x4 x5
    (by funext h; rw [View.readAt_eq_ld, Memref.IsWhole.read_unread]) (by funext h; rw [View.readAt_eq_ld, Memref.IsWhole.read_unread])
    (by rw [View.readAt_eq_ld, Memref.IsWhole.read_unread, View.ld_unit_lit' _ x2 z3]) (by rw [View.readAt_eq_ld, Memref.IsWhole.read_unread, View.ld_unit_lit' _ x3 z3])
    (by rw [View.readAt_eq_ld, Memref.IsWhole.read_unread, View.ld_unit_lit' _ x4 z3]) (by rw [View.readAt_eq_ld, Memref.IsWhole.read_unread, View.ld_unit_lit' _ x5 z3]),
    View.canon_cons_unit_lit' _ _ _ z3,
    readCov_heads arg9.view (fun h => headOf h (fun h => View.ld x0 (headRect h)) (fun h => View.ld x1 (headRect h)) x2 x3 x4 x5),
    finish_at _ r h d e he]

variable (m : (ℓ : Loc nD τ sig) → Buf (Elt F) ℓ) (c : Dev nD)

theorem V_q : V m c main_v0 = transpose S4x40x96x512 [0, 2, 3, 1] (m ((c : Thread nD τ).loc main_arg0)) transposes_S4x512x40x96_S4x40x96x512_0_2_3_1 := by sl_kernel_rfl
theorem V_v : V m c main_v1 = transpose S4x40x96x512 [0, 2, 3, 1] (m ((c : Thread nD τ).loc main_arg2)) transposes_S4x512x40x96_S4x40x96x512_0_2_3_1 := by sl_kernel_rfl
theorem V_qs : V m c main_v2 = transpose S4x40x512 [0, 2, 1] (m ((c : Thread nD τ).loc main_arg1)) transposes_S4x512x40_S4x40x512_0_2_1 := by sl_kernel_rfl
theorem V_vs : V m c main_v3 = transpose S4x40x512 [0, 2, 1] (m ((c : Thread nD τ).loc main_arg3)) transposes_S4x512x40_S4x40x512_0_2_1 := by sl_kernel_rfl

/-- The batch entry and the eight heads of grid point `t`. -/
abbrev batch (t : Fin cfg0.N) : Fin 4 := ⟨t.val / 5, by have : t.val < 20 := t.isLt; omega⟩
abbrev headAt (t : Fin cfg0.N) (h : Fin 8) : Fin 40 := ⟨t.val % 5 * 8 + h.val, by omega⟩

theorem blk_q (t : Fin cfg0.N) (h : Fin 8) (d : Fin 96) (l : Fin 512) :
    iblk m c 0 t (ix4 (0 : Fin 1) h d l) = m ((c : Thread nD τ).loc main_arg0) (ix4 (batch t) l (headAt t h) d) := by
  have idx : ∀ t : Fin cfg0.N, win0_0.index t = ![t.val / 5, t.val % 5, 0, 0] := by decide +kernel
  have e : iblk m c 0 t (ix4 (0 : Fin 1) h d l) = V m c main_v0 (ix4 (batch t) (headAt t h) d l) := by
    unfold iblk; blk_simp; blk_ext [idx]
  rw [e, V_q]
  pointwise

theorem blk_v (t : Fin cfg0.N) (h : Fin 8) (d : Fin 96) (l : Fin 512) :
    iblk m c 1 t (ix4 (0 : Fin 1) h d l) = m ((c : Thread nD τ).loc main_arg2) (ix4 (batch t) l (headAt t h) d) := by
  have idx : ∀ t : Fin cfg0.N, win0_1.index t = ![t.val / 5, t.val % 5, 0, 0] := by decide +kernel
  have e : iblk m c 1 t (ix4 (0 : Fin 1) h d l) = V m c main_v1 (ix4 (batch t) (headAt t h) d l) := by
    unfold iblk; blk_simp; blk_ext [idx]
  rw [e, V_v]
  pointwise

theorem blk_qs (t : Fin cfg0.N) (h : Fin 8) (l : Fin 512) :
    iblk m c 2 t (ix3 (0 : Fin 1) h l) = m ((c : Thread nD τ).loc main_arg1) (ix3 (batch t) l (headAt t h)) := by
  have idx : ∀ t : Fin cfg0.N, win0_2.index t = ![t.val / 5, t.val % 5, 0] := by decide +kernel
  have e : iblk m c 2 t (ix3 (0 : Fin 1) h l) = V m c main_v2 (ix3 (batch t) (headAt t h) l) := by
    unfold iblk; blk_simp; blk_ext [idx]
  rw [e, V_qs]
  pointwise

theorem blk_vs (t : Fin cfg0.N) (h : Fin 8) (l : Fin 512) :
    iblk m c 3 t (ix3 (0 : Fin 1) h l) = m ((c : Thread nD τ).loc main_arg3) (ix3 (batch t) l (headAt t h)) := by
  have idx : ∀ t : Fin cfg0.N, win0_3.index t = ![t.val / 5, t.val % 5, 0] := by decide +kernel
  have e : iblk m c 3 t (ix3 (0 : Fin 1) h l) = V m c main_v3 (ix3 (batch t) (headAt t h) l) := by
    unfold iblk; blk_simp; blk_ext [idx]
  rw [e, V_vs]
  pointwise

theorem blk_bk (t : Fin cfg0.N) (h : Fin 8) (l : Fin 512) :
    iblk m c 4 t (ix3 (0 : Fin 1) h l) = m ((c : Thread nD τ).loc main_arg4) (ix3 (batch t) (headAt t h) l) := by
  have idx : ∀ t : Fin cfg0.N, win0_4.index t = ![t.val / 5, t.val % 5, 0] := by decide +kernel
  rw [← V_main_arg4 m c]
  unfold iblk; blk_simp; blk_ext [idx]

theorem blk_pm (t : Fin cfg0.N) (h : Fin 8) (l : Fin 512) :
    iblk m c 5 t (ix3 (0 : Fin 1) h l) = m ((c : Thread nD τ).loc main_arg5) (ix3 (batch t) (headAt t h) l) := by
  have idx : ∀ t : Fin cfg0.N, win0_5.index t = ![t.val / 5, t.val % 5, 0] := by decide +kernel
  rw [← V_main_arg5 m c]
  unfold iblk; blk_simp; blk_ext [idx]

/-- The result array: each entry as the grid point of its batch entry and head group leaves it. -/
theorem arr_eq : (dats m 0 c).arrAt 6 cfg0.N = fun y : S4x512x3840.Idx =>
    outsAt0 m c ⟨(y 0).val * 5 + (y 2).val / 768, by have h0 : (y 0).val < 4 := (y 0).isLt; have h2 : (y 2).val < 3840 := (y 2).isLt; show _ < 20; omega⟩
      (ix3 (0 : Fin 1) (⟨(y 1).val, (y 1).isLt⟩ : Fin 512) (⟨(y 2).val % 768, by omega⟩ : Fin 768)) := by
  have idx : ∀ t : Fin cfg0.N, win0_6.index t = ![t.val / 5, 0, t.val % 5] := by decide +kernel
  refine (dats m 0 c).arrAt_eq_of_covers 6 _ (by decide +kernel) fun t hf y => ?_
  blk_simp
  rw [after0_6]
  have i0 : win0_6.index t 0 = t.val / 5 := by rw [idx]; rfl
  have i1 : win0_6.index t 1 = 0 := by rw [idx]; rfl
  have i2 : win0_6.index t 2 = t.val % 5 := by rw [idx]; rfl
  have y0 : (y 0).val < 1 := (y 0).isLt
  have y2 : (y 2).val < 768 := (y 2).isLt
  refine congrArg₂ (fun t' y' => outsAt0 m c t' y') (Fin.ext ?_) (funext fun a => ?_)
  · show t.val = win0_6.index t 0 * 5 + (win0_6.index t 2 * 768 + (y 2).val) / 768
    rw [i0, i2]; omega
  · fin_cases a
    · exact Fin.ext (by show (y 0).val = 0; omega)
    · exact Fin.ext (by show (y 1).val = win0_6.index t 1 * 512 + (y 1).val; rw [i1]; omega)
    · exact Fin.ext (by show (y 2).val = (win0_6.index t 2 * 768 + (y 2).val) % 768; omega)

end General

/-- The kernel's result at position `σ i`: the attention at sorted position `i` of the head. -/
theorem value_at (m : (ℓ : Loc nD τ sig) → Buf (Elt Ideal) ℓ) (c : Dev nD) (σ : Fin 4 → Fin 40 → Fin 512 → Fin 512) (hσ : ∀ b h, Function.Injective (σ b h))
    (hp : ∀ b h i, m ((c : Thread nD τ).loc main_arg5) (ix3 b h i) = BitVec.ofNat 32 (σ b h i).val) (b : Fin 4) (i : Fin 512) (h : Fin 40) (d : Fin 96) :
    (dats m 0 c).arrAt 6 cfg0.N (ix3 b (σ b h i) (⟨h.val * 96 + d.val, by omega⟩ : Fin 3840))
      = Core.attnKer (fun d j => m ((c : Thread nD τ).loc main_arg0) (ix4 b (σ b h j) h d)) (fun j => m ((c : Thread nD τ).loc main_arg2) (ix4 b (σ b h j) h d))
          (fun j => m ((c : Thread nD τ).loc main_arg1) (ix3 b (σ b h j) h)) (fun j => m ((c : Thread nD τ).loc main_arg3) (ix3 b (σ b h j) h))
          (fun j => m ((c : Thread nD τ).loc main_arg4) (ix3 b h (σ b h j))) i := by
  obtain ⟨t, k, hb, hh⟩ : ∃ (t : Fin cfg0.N) (k : Fin 8), b = batch t ∧ h = headAt t k :=
    ⟨⟨b.val * 5 + h.val / 8, by show _ < 20; omega⟩, ⟨h.val % 8, by omega⟩, Fin.ext (by show b.val = (b.val * 5 + h.val / 8) / 5; omega),
      Fin.ext (by show h.val = (b.val * 5 + h.val / 8) % 5 * 8 + h.val % 8; omega)⟩
  have ht : t.val < 20 := t.isLt
  subst hb hh
  have e : ∀ (t' : Fin cfg0.N) (e' : Fin 768), t'.val = t.val → e'.val = k.val * 96 + d.val →
      outsAt0 m c t' (ix3 (0 : Fin 1) (σ (batch t) (headAt t k) i) e') = Core.attnKer (fun d j => m ((c : Thread nD τ).loc main_arg0) (ix4 (batch t) (σ (batch t) (headAt t k) j) (headAt t k) d)) (fun j => m ((c : Thread nD τ).loc main_arg2) (ix4 (batch t) (σ (batch t) (headAt t k) j) (headAt t k) d))
          (fun j => m ((c : Thread nD τ).loc main_arg1) (ix3 (batch t) (σ (batch t) (headAt t k) j) (headAt t k))) (fun j => m ((c : Thread nD τ).loc main_arg3) (ix3 (batch t) (σ (batch t) (headAt t k) j) (headAt t k)))
          (fun j => m ((c : Thread nD τ).loc main_arg4) (ix3 (batch t) (headAt t k) (σ (batch t) (headAt t k) j))) i := by
    intro t' e' h1 h2
    rw [show t' = t from Fin.ext h1]
    unfold outsAt0
    have ld : ∀ (x : Vec Ideal S1x8x96x512 .fp8e4m3) (d : Fin 96) (l : Fin 512), View.ld x (headRect k) (ix4 (0 : Fin 1) (0 : Fin 1) d l) = x (ix4 (0 : Fin 1) k d l) := by
      intro x d l
      refine View.ld_unit_apply_of x _ _ _ _ (ix4 (0 : Fin 1) k d l) (fun a => ?_)
      fin_cases a
      · rfl
      · rfl
      · show d.val = 0 + d.val; omega
      · show l.val = 0 + l.val; omega
    rw [out_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) _ _ _ _ _ _ _ k d e' h2]
    have hq : ∀ d l, (fun h => View.ld (iblk m c 0 t) (headRect h) : Fin 8 → Vec Ideal S1x1x96x512 .fp8e4m3) k (ix4 (0 : Fin 1) (0 : Fin 1) d l) = m ((c : Thread nD τ).loc main_arg0) (ix4 (batch t) l (headAt t k) d) :=
      fun d l => (ld _ d l).trans (blk_q m c t k d l)
    have hv : ∀ d l, (fun h => View.ld (iblk m c 1 t) (headRect h) : Fin 8 → Vec Ideal S1x1x96x512 .fp8e4m3) k (ix4 (0 : Fin 1) (0 : Fin 1) d l) = m ((c : Thread nD τ).loc main_arg2) (ix4 (batch t) l (headAt t k) d) :=
      fun d l => (ld _ d l).trans (blk_v m c t k d l)
    generalize (fun h => View.ld (iblk m c 0 t) (headRect h) : Fin 8 → Vec Ideal S1x1x96x512 .fp8e4m3) = q at hq ⊢
    generalize (fun h => View.ld (iblk m c 1 t) (headRect h) : Fin 8 → Vec Ideal S1x1x96x512 .fp8e4m3) = v at hv ⊢
    rw [headOf_at k _ _ _ _ _ _ (σ (batch t) (headAt t k)) (hσ _ _) (fun l => by rw [blk_pm, hp])]
    simp only [blk_qs, blk_vs, blk_bk, hq, hv]
  rw [arr_eq]
  exact e _ _ (by show t.val / 5 * 5 + ((t.val % 5 * 8 + k.val) * 96 + d.val) / 768 = t.val; omega) (by show ((t.val % 5 * 8 + k.val) * 96 + d.val) % 768 = k.val * 96 + d.val; omega)

end Cert.KernelIdeal.Spec
end
-- ==== Proof.RHost.lean ====
/- What the reference hands to its attention call, as functions of the arguments: each array gathered by the
   permutation, cut into chunks, and each chunk set beside its two neighbours. -/
module

public import proofs.«01_k».proof.Proof.Gen.ReferenceIdeal.Frame
public import Idealize.ShloMosaic.Lib.Pipeline.ValueKit

@[expose] public section

set_option maxRecDepth 16384
set_option synthInstance.maxSize 4096

noncomputable section

namespace Cert.ReferenceIdeal.Spec

open Cert.ReferenceIdeal Cert.ReferenceIdeal.Gen Idealize.ShloMosaic Idealize.ShloMosaic.TcCoe Idealize.ShloMosaic.Tactic

variable {F : FTy → Type} [FloatOps F] [Named F]

/-- A lane number that counts from the end when negative. -/
def wrap4 (p : IVec S4x40x512x1 32) : IVec S4x40x512x1 32 :=
  select (cmpi .slt p (broadcastInDim S4x40x512x1 ![] bcast_S_S4x40x512x1 (constantI S_ 32 0#32)))
    (addi p (broadcastInDim S4x40x512x1 ![] bcast_S_S4x40x512x1 (constantI S_ 32 512#32))) p

/-- The same on the array without the trailing axis. -/
def wrap3 (p : IVec S4x40x512 32) : IVec S4x40x512 32 :=
  select (cmpi .slt p (broadcastInDim S4x40x512 ![] bcast_S_S4x40x512 (constantI S_ 32 0#32)))
    (addi p (broadcastInDim S4x40x512 ![] bcast_S_S4x40x512 (constantI S_ 32 512#32))) p

/-- Row `p i` of each head's array, at position `i`. -/
def takeRows {α : Type} (x : S4x512x40x96.Idx → α) (p : IVec S4x40x512 32) : S4x40x512x96.Idx → α :=
  Host.gather gather_S4x40x512x96_S4x40x512x1_S4x40x512x96_3_2_01_01_2_3_11196
    (transpose S4x40x512x96 [0, 2, 1, 3] x transposes_S4x512x40x96_S4x40x512x96_0_2_1_3)
    (wrap4 (broadcastInDim S4x40x512x1 ![0, 1, 2] bcast_S4x40x512_S4x40x512x1_0_1_2 p))

/-- Entry `p i` of each head's vector, at position `i`. -/
def takeCols {α : Type} (x : S4x40x512.Idx → α) (p : IVec S4x40x512 32) : S4x40x512.Idx → α :=
  Host.gather gather_S4x40x512_S4x40x512x1_S4x40x512_n_2_01_01_2_3_111 x
    (shapeCast S4x40x512x1 (wrap3 p) shapeCasts_S4x40x512_S4x40x512x1)

/-- Each chunk beside the one before it and the one after it, cyclically. -/
def window5 {α : Type} (x : S4x40x8x64x96.Idx → α) : S1280x192x96.Idx → α :=
  shapeCast S1280x192x96 (concatenate S4x40x8x192x96 3
    [⟨S4x40x8x64x96, concatenate S4x40x8x64x96 2 [⟨S4x40x1x64x96, extractStridedSlice S4x40x1x64x96 ![0, 0, 7, 0, 0] x slices_S4x40x8x64x96_S4x40x1x64x96_0_0_7_0_0⟩, ⟨S4x40x7x64x96, extractStridedSlice S4x40x7x64x96 ![0, 0, 0, 0, 0] x slices_S4x40x8x64x96_S4x40x7x64x96_0_0_0_0_0⟩] concatenates_S4x40x1x64x96_S4x40x7x64x96_S4x40x8x64x96_d2⟩,
     ⟨S4x40x8x64x96, x⟩,
     ⟨S4x40x8x64x96, concatenate S4x40x8x64x96 2 [⟨S4x40x7x64x96, extractStridedSlice S4x40x7x64x96 ![0, 0, 1, 0, 0] x slices_S4x40x8x64x96_S4x40x7x64x96_0_0_1_0_0⟩, ⟨S4x40x1x64x96, extractStridedSlice S4x40x1x64x96 ![0, 0, 0, 0, 0] x slices_S4x40x8x64x96_S4x40x1x64x96_0_0_0_0_0⟩] concatenates_S4x40x7x64x96_S4x40x1x64x96_S4x40x8x64x96_d2⟩]
    concatenates_S4x40x8x64x96_S4x40x8x64x96_S4x40x8x64x96_S4x40x8x192x96_d3) shapeCasts_S4x40x8x192x96_S1280x192x96

/-- The same for arrays without the trailing axis. -/
def window4 {α : Type} (x : S4x40x8x64.Idx → α) : S1280x192.Idx → α :=
  shapeCast S1280x192 (concatenate S4x40x8x192 3
    [⟨S4x40x8x64, concatenate S4x40x8x64 2 [⟨S4x40x1x64, extractStridedSlice S4x40x1x64 ![0, 0, 7, 0] x slices_S4x40x8x64_S4x40x1x64_0_0_7_0⟩, ⟨S4x40x7x64, extractStridedSlice S4x40x7x64 ![0, 0, 0, 0] x slices_S4x40x8x64_S4x40x7x64_0_0_0_0⟩] concatenates_S4x40x1x64_S4x40x7x64_S4x40x8x64_d2⟩,
     ⟨S4x40x8x64, x⟩,
     ⟨S4x40x8x64, concatenate S4x40x8x64 2 [⟨S4x40x7x64, extractStridedSlice S4x40x7x64 ![0, 0, 1, 0] x slices_S4x40x8x64_S4x40x7x64_0_0_1_0⟩, ⟨S4x40x1x64, extractStridedSlice S4x40x1x64 ![0, 0, 0, 0] x slices_S4x40x8x64_S4x40x1x64_0_0_0_0⟩] concatenates_S4x40x7x64_S4x40x1x64_S4x40x8x64_d2⟩]
    concatenates_S4x40x8x64_S4x40x8x64_S4x40x8x64_S4x40x8x192_d3) shapeCasts_S4x40x8x192_S1280x192

/-- The rows of an array in sorted order, by chunk. -/
def chunks5 {α : Type} (x : S4x512x40x96.Idx → α) (p : IVec S4x40x512 32) : S4x40x8x64x96.Idx → α :=
  shapeCast S4x40x8x64x96 (takeRows x p) shapeCasts_S4x40x512x96_S4x40x8x64x96

/-- The entries of a vector in sorted order, by chunk. -/
def chunks4 {α : Type} (x : S4x40x512.Idx → α) (p : IVec S4x40x512 32) : S4x40x8x64.Idx → α :=
  shapeCast S4x40x8x64 (takeCols x p) shapeCasts_S4x40x512_S4x40x8x64

variable (m : (ℓ : Loc nD τ sig) → Buf (Elt F) ℓ) (c : Dev nD)

theorem V_q : V m c main_v16 = shapeCast S1280x64x96 (chunks5 (m ((c : Thread nD τ).loc main_arg0)) (m ((c : Thread nD τ).loc main_arg5))) shapeCasts_S4x40x8x64x96_S1280x64x96 := by
  sl_kernel_rfl

theorem V_kwin : V m c main_v20 = window5 (chunks5 (m ((c : Thread nD τ).loc main_arg0)) (m ((c : Thread nD τ).loc main_arg5))) := by
  sl_kernel_rfl

theorem V_vwin : V m c main_v24 = window5 (chunks5 (m ((c : Thread nD τ).loc main_arg2)) (m ((c : Thread nD τ).loc main_arg5))) := by
  sl_kernel_rfl

theorem V_poswin : V m c main_v43 = window4 (shapeCast S4x40x8x64 (m ((c : Thread nD τ).loc main_arg5)) shapeCasts_S4x40x512_S4x40x8x64) := by
  sl_kernel_rfl

theorem V_qs : V m c main_v25 = shapeCast S1280x64 (chunks4 (transpose S4x40x512 [0, 2, 1] (m ((c : Thread nD τ).loc main_arg1)) transposes_S4x512x40_S4x40x512_0_2_1) (m ((c : Thread nD τ).loc main_arg5))) shapeCasts_S4x40x8x64_S1280x64 := by
  sl_kernel_rfl

theorem V_qswin : V m c main_v29 = window4 (chunks4 (transpose S4x40x512 [0, 2, 1] (m ((c : Thread nD τ).loc main_arg1)) transposes_S4x512x40_S4x40x512_0_2_1) (m ((c : Thread nD τ).loc main_arg5))) := by
  sl_kernel_rfl

theorem V_vswin : V m c main_v33 = window4 (chunks4 (transpose S4x40x512 [0, 2, 1] (m ((c : Thread nD τ).loc main_arg3)) transposes_S4x512x40_S4x40x512_0_2_1) (m ((c : Thread nD τ).loc main_arg5))) := by
  sl_kernel_rfl

theorem V_bk : V m c main_v34 = shapeCast S1280x64 (chunks4 (m ((c : Thread nD τ).loc main_arg4)) (m ((c : Thread nD τ).loc main_arg5))) shapeCasts_S4x40x8x64_S1280x64 := by
  sl_kernel_rfl

theorem V_bkwin : V m c main_v38 = window4 (chunks4 (m ((c : Thread nD τ).loc main_arg4)) (m ((c : Thread nD τ).loc main_arg5))) := by
  sl_kernel_rfl

theorem V_pos : V m c main_v39 = shapeCast S1280x64 (shapeCast S4x40x8x64 (m ((c : Thread nD τ).loc main_arg5)) shapeCasts_S4x40x512_S4x40x8x64) shapeCasts_S4x40x8x64_S1280x64 := by
  sl_kernel_rfl

end Cert.ReferenceIdeal.Spec

end
-- ==== Proof.RBlocks.lean ====
/- The attention call's result, as its body computes it from the ten arrays it is handed. -/
module

public import proofs.«01_k».proof.Proof.RHost

@[expose] public section

set_option maxRecDepth 16384
set_option synthInstance.maxSize 4096

noncomputable section

namespace Cert.ReferenceIdeal.Spec

open Cert.ReferenceIdeal Cert.ReferenceIdeal.Gen Idealize.ShloMosaic Idealize.ShloMosaic.TcCoe Idealize.ShloMosaic.Tactic

variable {F : FTy → Type} [FloatOps F] [Named F]

variable (m : (ℓ : Loc nD τ sig) → Buf (Elt F) ℓ) (c : Dev nD)

theorem out_eq (x0 : Vec F S1280x64x96 .fp8e4m3) (x1 : Vec F S1280x192x96 .fp8e4m3) (x2 : Vec F S1280x192x96 .fp8e4m3) (x3 : Vec F S1280x64 .f32) (x4 : Vec F S1280x192 .f32) (x5 : Vec F S1280x192 .f32) (x6 : Vec F S1280x64 .i32) (x7 : Vec F S1280x192 .i32) (x8 : Vec F S1280x64 .i32) (x9 : Vec F S1280x192 .i32) :
    out0_10 x0 x1 x2 x3 x4 x5 x6 x7 x8 x9
      = k0_pay1 (k0_pay2 x0 x1 x4 x3) (k0_pay3 x8 x9) (k0_pay4 x6) x7 x5 x2 := by
  have z3 : ∀ a : Fin 3, (![0, 0, 0] : Fin 3 → ℕ) a = 0 := by decide
  have z2 : ∀ a : Fin 2, (![0, 0] : Fin 2 → ℕ) a = 0 := by decide
  unfold out0_10
  rw [View.canon_cons_unit_lit' _ _ _ z3, View.ld_unit_lit' _ x0 z3, View.ld_unit_lit' _ x1 z3, View.ld_unit_lit' _ x2 z3,
    View.ld_unit_lit' _ x3 z2, View.ld_unit_lit' _ x4 z2, View.ld_unit_lit' _ x5 z2, View.ld_unit_lit' _ x6 z2,
    View.ld_unit_lit' _ x7 z2, View.ld_unit_lit' _ x8 z2, View.ld_unit_lit' _ x9 z2]

theorem blk0 : iblk m c 0 t0_0 = V m c main_v16 := by
  have idx : ∀ t : Fin cfg0.N, win0_0.index t = ![0, 0, 0] := by decide
  funext j; unfold iblk; blk_simp; blk_ext [idx]

theorem blk1 : iblk m c 1 t0_0 = V m c main_v20 := by
  have idx : ∀ t : Fin cfg0.N, win0_1.index t = ![0, 0, 0] := by decide
  funext j; unfold iblk; blk_simp; blk_ext [idx]

theorem blk2 : iblk m c 2 t0_0 = V m c main_v24 := by
  have idx : ∀ t : Fin cfg0.N, win0_2.index t = ![0, 0, 0] := by decide
  funext j; unfold iblk; blk_simp; blk_ext [idx]

theorem blk3 : iblk m c 3 t0_0 = V m c main_v25 := by
  have idx : ∀ t : Fin cfg0.N, win0_3.index t = ![0, 0] := by decide
  funext j; unfold iblk; blk_simp; blk_ext [idx]

theorem blk4 : iblk m c 4 t0_0 = V m c main_v29 := by
  have idx : ∀ t : Fin cfg0.N, win0_4.index t = ![0, 0] := by decide
  funext j; unfold iblk; blk_simp; blk_ext [idx]

theorem blk5 : iblk m c 5 t0_0 = V m c main_v33 := by
  have idx : ∀ t : Fin cfg0.N, win0_5.index t = ![0, 0] := by decide
  funext j; unfold iblk; blk_simp; blk_ext [idx]

theorem blk6 : iblk m c 6 t0_0 = V m c main_v34 := by
  have idx : ∀ t : Fin cfg0.N, win0_6.index t = ![0, 0] := by decide
  funext j; unfold iblk; blk_simp; blk_ext [idx]

theorem blk7 : iblk m c 7 t0_0 = V m c main_v38 := by
  have idx : ∀ t : Fin cfg0.N, win0_7.index t = ![0, 0] := by decide
  funext j; unfold iblk; blk_simp; blk_ext [idx]

theorem blk8 : iblk m c 8 t0_0 = V m c main_v39 := by
  have idx : ∀ t : Fin cfg0.N, win0_8.index t = ![0, 0] := by decide
  funext j; unfold iblk; blk_simp; blk_ext [idx]

theorem blk9 : iblk m c 9 t0_0 = V m c main_v43 := by
  have idx : ∀ t : Fin cfg0.N, win0_9.index t = ![0, 0] := by decide
  funext j; unfold iblk; blk_simp; blk_ext [idx]

theorem arr_eq : (dats m 0 c).arrAt 10 cfg0.N
    = k0_pay1 (k0_pay2 (V m c main_v16) (V m c main_v20) (V m c main_v29) (V m c main_v25))
        (k0_pay3 (V m c main_v39) (V m c main_v43)) (k0_pay4 (V m c main_v34)) (V m c main_v38) (V m c main_v33) (V m c main_v24) := by
  refine (dats m 0 c).arrAt_eq_of_after_last 10 t0_0 (by decide +kernel) _ (fun j => ?_)
  rw [after0_10, out_eq, blk0, blk1, blk2, blk3, blk4, blk5, blk6, blk7, blk8, blk9]
  blk_simp

end Cert.ReferenceIdeal.Spec

end
-- ==== Proof.RTail.lean ====
/- What the reference makes of its attention call's result: every row put at the position it was sorted from. -/
module

public import proofs.«01_k».proof.Proof.RBlocks

@[expose] public section

set_option maxRecDepth 16384
set_option synthInstance.maxSize 4096

noncomputable section

namespace Cert.ReferenceIdeal.Spec

open Cert.ReferenceIdeal Cert.ReferenceIdeal.Gen Idealize.ShloMosaic Idealize.ShloMosaic.TcCoe Idealize.ShloMosaic.Tactic

variable {F : FTy → Type} [FloatOps F] [Named F]

/-- The batch number, counted from the end when negative. -/
def batchIdx : IVec S4x1x1 32 :=
  have b : IVec S4x1x1 32 := broadcastInDim S4x1x1 ![0] bcast_S4_S4x1x1_0 (iotaInDim S4 32 0)
  select (cmpi .slt b (broadcastInDim S4x1x1 ![] bcast_S_S4x1x1 (constantI S_ 32 0#32)))
    (addi b (broadcastInDim S4x1x1 ![] bcast_S_S4x1x1 (constantI S_ 32 4#32))) b

/-- The head number, counted from the end when negative. -/
def headIdx : IVec S1x40x1 32 :=
  have h : IVec S1x40x1 32 := broadcastInDim S1x40x1 ![1] bcast_S40_S1x40x1_1 (iotaInDim S40 32 0)
  select (cmpi .slt h (broadcastInDim S1x40x1 ![] bcast_S_S1x40x1 (constantI S_ 32 0#32)))
    (addi h (broadcastInDim S1x40x1 ![] bcast_S_S1x40x1 (constantI S_ 32 40#32))) h

/-- Where each row of the attention's result goes: its batch, its original position, its head. -/
def target (p : IVec S4x40x512 32) : IVec S4x40x512x3 32 :=
  concatenate S4x40x512x3 3
    [⟨S4x40x512x1, broadcastInDim S4x40x512x1 ![0, 1, 2] bcast_S4x40x512_S4x40x512x1_0_1_2 (broadcastInDim S4x40x512 ![0, 1, 2] bcast_S4x1x1_S4x40x512_0_1_2 batchIdx)⟩,
     ⟨S4x40x512x1, broadcastInDim S4x40x512x1 ![0, 1, 2] bcast_S4x40x512_S4x40x512x1_0_1_2 (wrap3 p)⟩,
     ⟨S4x40x512x1, broadcastInDim S4x40x512x1 ![0, 1, 2] bcast_S4x40x512_S4x40x512x1_0_1_2 (broadcastInDim S4x40x512 ![0, 1, 2] bcast_S1x40x1_S4x40x512_0_1_2 headIdx)⟩]
    concatenates_S4x40x512x1_S4x40x512x1_S4x40x512x1_S4x40x512x3_d3

/-- The rows `u` put where `target` says. -/
def put (u : FVec F S4x40x512x96 .f32) (p : IVec S4x40x512 32) : FVec F S4x512x40x96 .f32 :=
  Host.scatter scatter_S4x512x40x96_S4x40x512x3_S4x40x512x96_3_012_012_3 (fun _ b => b)
    (broadcastInDim S4x512x40x96 ![] bcast_S_S4x512x40x96 (constant S_ .f32 0x00000000#32)) (target p) u

/-- The result as the reference returns it. -/
def finish (y : FVec F S1280x64x96 .f32) (p : IVec S4x40x512 32) : FVec F S4x512x3840 .bf16 :=
  truncf .bf16 (shapeCast S4x512x3840 (put (shapeCast S4x40x512x96 y shapeCasts_S1280x64x96_S4x40x512x96) p) shapeCasts_S4x512x40x96_S4x512x3840) bitsLt_bf16_f32

variable (m : (ℓ : Loc nD τ sig) → Buf (Elt F) ℓ) (c : Dev nD)

theorem tail_at (W : Valuation τ sig (Elt F)) : StableHlo.after hostOps1 W (Proc.devRef .tc main_v74)
    = finish (W (Proc.devRef .tc main_v44)) (W (Proc.devRef .tc main_arg5)) := by
  have e50 : StableHlo.after (hostOps1.take 34) W (Proc.devRef .tc main_v50) = (broadcastInDim S4x512x40x96 ![] bcast_S_S4x512x40x96 (constant S_ .f32 0x00000000#32)) := by
    sl_kernel_rfl
  have e71 : StableHlo.after (hostOps1.take 34) W (Proc.devRef .tc main_v71) = target (W (Proc.devRef .tc main_arg5)) := by
    sl_kernel_rfl
  have e45 : StableHlo.after (hostOps1.take 34) W (Proc.devRef .tc main_v45) = shapeCast S4x40x512x96 (W (Proc.devRef .tc main_v44)) shapeCasts_S1280x64x96_S4x40x512x96 := by
    sl_kernel_rfl
  rw [show (hostOps1 : List (HloOp τ sig (Elt F))) = hostOps1.take 34 ++ hostOps1.drop 34 from (List.take_append_drop _ _).symm, StableHlo.after_append]
  generalize StableHlo.after (hostOps1.take 34) W = X at *
  simp only [hostOps1, List.drop, StableHlo.after_cons, StableHlo.after_nil]
  after_results_simp
  rw [e50, e71, e45]
  unfold finish put
  generalize Host.scatter _ _ _ _ _ = Z
  rfl

theorem tail_eq : Pipeline.afterTail₀ cfgs (dats m) 0 (V0 m) [hostOps1] c main_v74
    = finish (k0_pay1 (k0_pay2 (V m c main_v16) (V m c main_v20) (V m c main_v29) (V m c main_v25))
        (k0_pay3 (V m c main_v39) (V m c main_v43)) (k0_pay4 (V m c main_v34)) (V m c main_v38) (V m c main_v33) (V m c main_v24))
      (m ((c : Thread nD τ).loc main_arg5)) := by
  have e44 : Pipeline.withArrays spec0 c (V0 m c) (fun w => (dats m 0 c).arrAt w cfg0.N) (Proc.devRef .tc main_v44) = (dats m 0 c).arrAt 10 cfg0.N :=
    Pipeline.withArrays_arr spec0 (by decide) c (V0 m c) (fun w => (dats m 0 c).arrAt w cfg0.N) 10
  have e5 : Pipeline.withArrays spec0 c (V0 m c) (fun w => (dats m 0 c).arrAt w cfg0.N) (Proc.devRef .tc main_arg5) = (m ((c : Thread nD τ).loc main_arg5)) :=
    (Pipeline.withArrays_of_ne spec0 c (V0 m c) (fun w => (dats m 0 c).arrAt w cfg0.N) main_arg5 (by decide)).trans (V_main_arg5 m c)
  rw [← arr_eq, ← e44, ← e5]
  exact tail_at _

variable (ρ : Dev nD → PrngReg)

/-- The reference's run: the result array as the operations above compute it, the arguments as launched. -/
theorem run : θ_run defs (onTc (τ := τ) (main (F := F))) ⟨m, fun _ => 0, ρ⟩ (fun r => ∀ c : Dev nD,
      r.2.mem ((c.tc : Thread nD τ).loc main_v74) = finish (k0_pay1 (k0_pay2 (V m c main_v16) (V m c main_v20) (V m c main_v29) (V m c main_v25))
        (k0_pay3 (V m c main_v39) (V m c main_v43)) (k0_pay4 (V m c main_v34)) (V m c main_v38) (V m c main_v33) (V m c main_v24))
      (m ((c : Thread nD τ).loc main_arg5))) :=
  (θ_run defs _ _).mono (fun _ h c => ((h c).2 main_v74 (Pipeline.mem_restRefs_of main_v74 (by decide) (by decide))).trans (tail_eq m c)) (run_main m ρ)

end Cert.ReferenceIdeal.Spec

end
-- ==== Proof.RAttend.lean ====
/- The reference entry by entry, over the extended reals: its attention call's body, the chunk windows, the gathers by
   the permutation and the scatter back. -/
module

public import proofs.«01_k».proof.Proof.RTail
public import proofs.«01_k».proof.Proof.Score
public import Idealize.ShloMosaic.Lib.Pointwise
public import Idealize.ShloMosaic.Lib.Routing.OpsSet
public import Idealize.ShloMosaic.Lib.Routing.OpsPair

@[expose] public section

set_option maxRecDepth 16384
set_option synthInstance.maxSize 4096

noncomputable section

namespace Cert.ReferenceIdeal.Spec

open Cert.ReferenceIdeal Cert.ReferenceIdeal.Gen Idealize.ShloMosaic

theorem pay2_at (q : Vec Ideal S1280x64x96 .fp8e4m3) (kw : Vec Ideal S1280x192x96 .fp8e4m3) (qsw : Vec Ideal S1280x192 .f32) (qs : Vec Ideal S1280x64 .f32)
    (n : Fin 1280) (j : Fin 64) (k : Fin 192) :
    k0_pay2 q kw qsw qs (ix3 n j k) = (∑ d : Fin 96, q (ix3 n j d) * kw (ix3 n k d)) * qs (ix2 n j) * Core.keyFactor (fun d => kw (ix3 n k d)) (qsw (ix2 n k)) := by
  pointwise [k0_pay2]
  rw [show Ideal.ofBits .f32 1119879168#32 = ((96 : ℝ) : EReal) from Core.ofBits_96, Core.div_96]
  rfl

theorem pay3_at (p : Vec Ideal S1280x64 .i32) (pw : Vec Ideal S1280x192 .i32)
    (n : Fin 1280) (j : Fin 64) (k : Fin 192) :
    k0_pay3 (F := Ideal) p pw (ix3 n j k) = IntOp.cmpi .eq (p (ix2 n j)) (pw (ix2 n k)) := by
  pointwise [k0_pay3]

theorem named_bucket (b : BitVec 32) : (Named.named (F := Idealize.ShloMosaic.Ideal) (φ := .f32) κ "bucket_mask" b : EReal) = ⊥ :=
  IdealRules.named_const.ideal_named_scalar _ _ _ _ rfl

theorem pay1_at (s : FVec Ideal S1280x64x192 .f32) (e : IVec S1280x64x192 1) (b : IVec S1280x64 32) (bw : Vec Ideal S1280x192 .i32) (vs : Vec Ideal S1280x192 .f32) (v : Vec Ideal S1280x192x96 .fp8e4m3)
    (n : Fin 1280) (j : Fin 64) (d : Fin 96) (sc : Fin 192 → EReal)
    (hsc : ∀ k : Fin 192, Scalar.select (e (ix3 n j k)) ((-100000 : ℝ) : EReal) (Scalar.select (IntOp.cmpi .ne (b (ix2 n j)) (bw (ix2 n k))) ⊥ (s (ix3 n j k))) = sc k) :
    k0_pay1 s e b bw vs v (ix3 n j d) = ∑ k : Fin 192, ((Ideal.exp (sc k - Finset.univ.fold max ⊥ fun k => sc k) * Ideal.div 1 (∑ k, Ideal.exp (sc k - Finset.univ.fold max ⊥ fun k => sc k))) * vs (ix2 n k)) * v (ix3 n k d) := by
  pointwise [k0_pay1]
  simp only [named_bucket]
  rw [show Ideal.ofBits .f32 3351465984#32 = ((-100000 : ℝ) : EReal) from Core.ofBits_self, show Ideal.ofBits .f32 4286578688#32 = ⊥ from Core.ofBits_bot]
  simp only [hsc]

theorem window5_at {α : Type} (x : S4x40x8x64x96.Idx → α) (b : Fin 4) (h : Fin 40) (n : Fin 8) (N : Fin 1280) (hN : N.val = (b.val * 40 + h.val) * 8 + n.val) (k : Fin 192) (d : Fin 96) :
    window5 x (ix3 N k d) = x (ix5 b h (⟨(n.val + 7 + k.val / 64) % 8, by omega⟩ : Fin 8) (⟨k.val % 64, by omega⟩ : Fin 64) d) := by
  pointwise [window5]
  have e : ∀ (a : Fin 4) (g : Fin 40) (l : Fin 8) (j : Fin 64), a.val = b.val → g.val = h.val → l.val = (n.val + 7 + k.val / 64) % 8 → j.val = k.val % 64 →
      x (ix5 a g l j d) = x (ix5 b h (⟨(n.val + 7 + k.val / 64) % 8, by omega⟩ : Fin 8) (⟨k.val % 64, by omega⟩ : Fin 64) d) := by
    intro a g l j h1 h2 h3 h4
    rw [Fin.ext h1, Fin.ext h2, show l = ⟨(n.val + 7 + k.val / 64) % 8, by omega⟩ from Fin.ext h3, show j = ⟨k.val % 64, by omega⟩ from Fin.ext h4]
  split_ifs <;> apply e <;> simp only [] <;> omega

theorem window4_at {α : Type} (x : S4x40x8x64.Idx → α) (b : Fin 4) (h : Fin 40) (n : Fin 8) (N : Fin 1280) (hN : N.val = (b.val * 40 + h.val) * 8 + n.val) (k : Fin 192) :
    window4 x (ix2 N k) = x (ix4 b h (⟨(n.val + 7 + k.val / 64) % 8, by omega⟩ : Fin 8) (⟨k.val % 64, by omega⟩ : Fin 64)) := by
  pointwise [window4]
  have e : ∀ (a : Fin 4) (g : Fin 40) (l : Fin 8) (j : Fin 64), a.val = b.val → g.val = h.val → l.val = (n.val + 7 + k.val / 64) % 8 → j.val = k.val % 64 →
      x (ix4 a g l j) = x (ix4 b h (⟨(n.val + 7 + k.val / 64) % 8, by omega⟩ : Fin 8) (⟨k.val % 64, by omega⟩ : Fin 64)) := by
    intro a g l j h1 h2 h3 h4
    rw [Fin.ext h1, Fin.ext h2, show l = ⟨(n.val + 7 + k.val / 64) % 8, by omega⟩ from Fin.ext h3, show j = ⟨k.val % 64, by omega⟩ from Fin.ext h4]
  split_ifs <;> apply e <;> simp only [] <;> omega

theorem wrap_word (r : Fin 512) : Scalar.select (IntOp.cmpi .slt (BitVec.ofNat 32 r.val) 0#32) (IntOp.addi (BitVec.ofNat 32 r.val) 512#32) (BitVec.ofNat 32 r.val) = BitVec.ofNat 32 r.val := by
  have h : IntOp.cmpi .slt (BitVec.ofNat 32 r.val) 0#32 = 0#1 := by
    revert r; decide +kernel
  rw [h]
  rfl

theorem toInt_word (r : Fin 512) : (BitVec.ofNat 32 r.val).toInt = (r.val : Int) := by
  revert r; decide +kernel

theorem wrap4_at (p : IVec S4x40x512x1 32) (b : Fin 4) (h : Fin 40) (i : Fin 512) (r : Fin 512)
    (hp : p (ix4 b h i (0 : Fin 1)) = BitVec.ofNat 32 r.val) : wrap4 p (ix4 b h i (0 : Fin 1)) = BitVec.ofNat 32 r.val := by
  pointwise [wrap4]
  rw [hp]
  exact wrap_word r

theorem wrap3_at (p : IVec S4x40x512 32) (b : Fin 4) (h : Fin 40) (i : Fin 512) (r : Fin 512)
    (hp : p (ix3 b h i) = BitVec.ofNat 32 r.val) : wrap3 p (ix3 b h i) = BitVec.ofNat 32 r.val := by
  pointwise [wrap3]
  rw [hp]
  exact wrap_word r

theorem gatherRows {α : Type} (x : S4x40x512x96.Idx → α) (idx : IVec S4x40x512x1 32) (b : Fin 4) (h : Fin 40) (i : Fin 512) (d : Fin 96) (r : Fin 512)
    (hp : idx (ix4 b h i (0 : Fin 1)) = BitVec.ofNat 32 r.val) :
    Host.gather gather_S4x40x512x96_S4x40x512x1_S4x40x512x96_3_2_01_01_2_3_11196 x idx (ix4 b h i d) = x (ix4 b h r d) := by
  unfold Host.gather
  refine congrArg x (funext fun a => Fin.ext ?_)
  show GatherDims.start _ (ix4 b h i d) idx a + GatherDims.batchCoord _ (ix4 b h i d) a + GatherDims.offCoord _ (ix4 b h i d) a = _
  match a with
  | ⟨0, _⟩ => exact (show 0 + b.val + 0 = b.val by omega)
  | ⟨1, _⟩ => exact (show 0 + h.val + 0 = h.val by omega)
  | ⟨2, _⟩ =>
    have e : min (idx (ix4 b h i (0 : Fin 1))).toInt.toNat 511 = r.val := by rw [hp, toInt_word]; omega
    refine Eq.trans ?_ e
    have hi : GatherDims.siIdx gather_S4x40x512x96_S4x40x512x1_S4x40x512x96_3_2_01_01_2_3_11196 (ix4 b h i d) ⟨0, by decide⟩ = ix4 b h i (0 : Fin 1) := by
      funext a
      match a with
      | ⟨0, _⟩ => rfl
      | ⟨1, _⟩ => rfl
      | ⟨2, _⟩ => rfl
      | ⟨3, _⟩ => rfl
    rw [← hi]
    rfl
  | ⟨3, _⟩ => exact (show 0 + 0 + d.val = d.val by omega)

theorem gatherCols {α : Type} (x : S4x40x512.Idx → α) (idx : IVec S4x40x512x1 32) (b : Fin 4) (h : Fin 40) (i : Fin 512) (r : Fin 512)
    (hp : idx (ix4 b h i (0 : Fin 1)) = BitVec.ofNat 32 r.val) :
    Host.gather gather_S4x40x512_S4x40x512x1_S4x40x512_n_2_01_01_2_3_111 x idx (ix3 b h i) = x (ix3 b h r) := by
  unfold Host.gather
  refine congrArg x (funext fun a => Fin.ext ?_)
  show GatherDims.start _ (ix3 b h i) idx a + GatherDims.batchCoord _ (ix3 b h i) a + GatherDims.offCoord _ (ix3 b h i) a = _
  match a with
  | ⟨0, _⟩ => exact (show 0 + b.val + 0 = b.val by omega)
  | ⟨1, _⟩ => exact (show 0 + h.val + 0 = h.val by omega)
  | ⟨2, _⟩ =>
    have e : min (idx (ix4 b h i (0 : Fin 1))).toInt.toNat 511 = r.val := by rw [hp, toInt_word]; omega
    refine Eq.trans ?_ e
    have hi : GatherDims.siIdx gather_S4x40x512_S4x40x512x1_S4x40x512_n_2_01_01_2_3_111 (ix3 b h i) ⟨0, by decide⟩ = ix4 b h i (0 : Fin 1) := by
      funext a
      match a with
      | ⟨0, _⟩ => rfl
      | ⟨1, _⟩ => rfl
      | ⟨2, _⟩ => rfl
      | ⟨3, _⟩ => rfl
    rw [← hi]
    rfl

theorem takeRows_at {α : Type} (x : S4x512x40x96.Idx → α) (p : IVec S4x40x512 32) (b : Fin 4) (h : Fin 40) (i : Fin 512) (d : Fin 96) (r : Fin 512)
    (hp : p (ix3 b h i) = BitVec.ofNat 32 r.val) : takeRows x p (ix4 b h i d) = x (ix4 b r h d) := by
  unfold takeRows
  rw [gatherRows _ _ b h i d r (wrap4_at _ b h i r (by pointwise; exact hp))]
  pointwise

theorem takeCols_at {α : Type} (x : S4x40x512.Idx → α) (p : IVec S4x40x512 32) (b : Fin 4) (h : Fin 40) (i : Fin 512) (r : Fin 512)
    (hp : p (ix3 b h i) = BitVec.ofNat 32 r.val) : takeCols x p (ix3 b h i) = x (ix3 b h r) := by
  unfold takeCols
  rw [gatherCols _ _ b h i r (by pointwise; exact wrap3_at p b h i r hp)]

/-! ## The scatter -/

theorem batchIdx_at (b : Fin 4) : batchIdx (ix3 b (0 : Fin 1) (0 : Fin 1)) = BitVec.ofNat 32 b.val := by
  pointwise [batchIdx]
  revert b; decide

theorem headIdx_at (h : Fin 40) : headIdx (ix3 (0 : Fin 1) h (0 : Fin 1)) = BitVec.ofNat 32 h.val := by
  pointwise [headIdx]
  revert h; decide +kernel

theorem target_0 (p : IVec S4x40x512 32) (b : Fin 4) (h : Fin 40) (i : Fin 512) : target p (ix4 b h i (0 : Fin 3)) = BitVec.ofNat 32 b.val := by
  pointwise [target]
  exact batchIdx_at b

theorem target_1 (p : IVec S4x40x512 32) (b : Fin 4) (h : Fin 40) (i : Fin 512) (r : Fin 512)
    (hp : p (ix3 b h i) = BitVec.ofNat 32 r.val) : target p (ix4 b h i (1 : Fin 3)) = BitVec.ofNat 32 r.val := by
  pointwise [target]
  exact wrap3_at p b h i r hp

theorem target_2 (p : IVec S4x40x512 32) (b : Fin 4) (h : Fin 40) (i : Fin 512) : target p (ix4 b h i (2 : Fin 3)) = BitVec.ofNat 32 h.val := by
  pointwise [target]
  exact headIdx_at h

/-- Where an update lands: its batch, the position its row was sorted from, its head, its column. -/
theorem lands (idx : IVec S4x40x512x3 32) (b b' : Fin 4) (h h' : Fin 40) (i r : Fin 512) (d d' : Fin 96) :
    ScatterDims.resultIdx? scatter_S4x512x40x96_S4x40x512x3_S4x40x512x96_3_012_012_3 (ix4 b h i d) idx = some (ix4 b' r h' d')
      ↔ (idx (ix4 b h i (0 : Fin 3))).toInt = b'.val ∧ (idx (ix4 b h i (1 : Fin 3))).toInt = r.val ∧ (idx (ix4 b h i (2 : Fin 3))).toInt = h'.val ∧ d.val = d'.val := by
  rw [Routing.resultIdx?_eq_some]
  have hi : ∀ k : Fin 3, ScatterDims.siIdx scatter_S4x512x40x96_S4x40x512x3_S4x40x512x96_3_012_012_3 (ix4 b h i d) k = ix4 b h i k := by
    intro k
    funext a
    match a with
    | ⟨0, _⟩ => rfl
    | ⟨1, _⟩ => rfl
    | ⟨2, _⟩ => rfl
    | ⟨3, _⟩ => rfl
  have s0 : ScatterDims.start scatter_S4x512x40x96_S4x40x512x3_S4x40x512x96_3_012_012_3 (ix4 b h i d) idx 0 = (idx (ix4 b h i (0 : Fin 3))).toInt := by rw [← hi]; rfl
  have s1 : ScatterDims.start scatter_S4x512x40x96_S4x40x512x3_S4x40x512x96_3_012_012_3 (ix4 b h i d) idx 1 = (idx (ix4 b h i (1 : Fin 3))).toInt := by rw [← hi]; rfl
  have s2 : ScatterDims.start scatter_S4x512x40x96_S4x40x512x3_S4x40x512x96_3_012_012_3 (ix4 b h i d) idx 2 = (idx (ix4 b h i (2 : Fin 3))).toInt := by rw [← hi]; rfl
  have s3 : ScatterDims.start scatter_S4x512x40x96_S4x40x512x3_S4x40x512x96_3_012_012_3 (ix4 b h i d) idx 3 = 0 := rfl
  have w0 : ScatterDims.window scatter_S4x512x40x96_S4x40x512x3_S4x40x512x96_3_012_012_3 (ix4 b h i d) 0 = 0 := rfl
  have w1 : ScatterDims.window scatter_S4x512x40x96_S4x40x512x3_S4x40x512x96_3_012_012_3 (ix4 b h i d) 1 = 0 := rfl
  have w2 : ScatterDims.window scatter_S4x512x40x96_S4x40x512x3_S4x40x512x96_3_012_012_3 (ix4 b h i d) 2 = 0 := rfl
  have w3 : ScatterDims.window scatter_S4x512x40x96_S4x40x512x3_S4x40x512x96_3_012_012_3 (ix4 b h i d) 3 = d.val := rfl
  constructor
  · intro H
    have h0 := H 0
    have h1 := H 1
    have h2 := H 2
    have h3 := H 3
    rw [s0, w0] at h0
    rw [s1, w1] at h1
    rw [s2, w2] at h2
    rw [s3, w3] at h3
    have c0 : ((ix4 b' r h' d' : S4x512x40x96.Idx) 0).val = b'.val := rfl
    have c1 : ((ix4 b' r h' d' : S4x512x40x96.Idx) 1).val = r.val := rfl
    have c2 : ((ix4 b' r h' d' : S4x512x40x96.Idx) 2).val = h'.val := rfl
    have c3 : ((ix4 b' r h' d' : S4x512x40x96.Idx) 3).val = d'.val := rfl
    rw [c0] at h0
    rw [c1] at h1
    rw [c2] at h2
    rw [c3] at h3
    refine ⟨?_, ?_, ?_, ?_⟩ <;> omega
  · rintro ⟨h0, h1, h2, h3⟩ a
    match a with
    | ⟨0, _⟩ => exact (congrArg₂ (fun (x : Int) (y : ℕ) => x + (y : Int)) s0 w0).trans (by rw [h0]; exact Int.add_zero _)
    | ⟨1, _⟩ => exact (congrArg₂ (fun (x : Int) (y : ℕ) => x + (y : Int)) s1 w1).trans (by rw [h1]; exact Int.add_zero _)
    | ⟨2, _⟩ => exact (congrArg₂ (fun (x : Int) (y : ℕ) => x + (y : Int)) s2 w2).trans (by rw [h2]; exact Int.add_zero _)
    | ⟨3, _⟩ => exact (congrArg₂ (fun (x : Int) (y : ℕ) => x + (y : Int)) s3 w3).trans (by rw [h3]; exact Int.zero_add _)

/-- The rows put back: position `σ i` of head `h` holds row `i`. -/
theorem put_at (u : FVec Ideal S4x40x512x96 .f32) (p : IVec S4x40x512 32) (σ : Fin 4 → Fin 40 → Fin 512 → Fin 512)
    (hp : ∀ b h i, p (ix3 b h i) = BitVec.ofNat 32 (σ b h i).val) (hσ : ∀ b h, Function.Injective (σ b h))
    (b : Fin 4) (h : Fin 40) (i : Fin 512) (d : Fin 96) : put u p (ix4 b (σ b h i) h d) = u (ix4 b h i d) := by
  unfold put
  refine Routing.scatter_set_hit _ _ _ _ _ _ (fun k hk => ?_) (ix4 b h i d) ?_
  · obtain ⟨b', h', i', d', rfl⟩ : ∃ (b' : Fin 4) (h' : Fin 40) (i' : Fin 512) (d' : Fin 96), k = ix4 b' h' i' d' := ⟨k 0, k 1, k 2, k 3, eq_ix4 k⟩
    rw [lands, target_0, target_1 p b' h' i' _ (hp b' h' i'), target_2, toInt_word] at hk
    obtain ⟨h0, h1, h2, h3⟩ := hk
    have e0 : b' = b := by
      clear h1 h2 h3; revert b b'; decide
    have e2 : h' = h := by
      clear h0 h1 h3; revert h h'; decide +kernel
    subst e0 e2
    have e1 : i' = i := hσ b' h' (Fin.ext (by omega))
    have e3 : d' = d := Fin.ext h3
    rw [e1, e3]
  · rw [lands, target_0, target_1 p b h i _ (hp b h i), target_2, toInt_word]
    refine ⟨?_, rfl, ?_, rfl⟩
    · clear hp hσ; revert b; decide
    · clear hp hσ; revert h; decide +kernel

end Cert.ReferenceIdeal.Spec
end
-- ==== Proof.RValue.lean ====
/- The reference's result over the extended reals: the attention of Score.lean at every position of every head. -/
module

public import proofs.«01_k».proof.Proof.RAttend

@[expose] public section

set_option maxRecDepth 16384
set_option synthInstance.maxSize 4096

noncomputable section

namespace Cert.ReferenceIdeal.Spec

open Cert.ReferenceIdeal Cert.ReferenceIdeal.Gen Idealize.ShloMosaic Idealize.ShloMosaic.TcCoe

/-- The row of the attention call's arrays that holds chunk `n` of head `h` of batch entry `b`. -/
abbrev chunk (b : Fin 4) (h : Fin 40) (n : Fin 8) : Fin 1280 := ⟨(b.val * 40 + h.val) * 8 + n.val, by omega⟩

theorem congr3 {A B C D : Type} (f : A → B → C → D) {a a' : A} {b b' : B} {c c' : C} (h1 : a = a') (h2 : b = b') (h3 : c = c') : f a b c = f a' b' c' := by
  rw [h1, h2, h3]

theorem batch_of (b : Fin 4) (h : Fin 40) (n : ℕ) (hn : n < 8) (hlt : ((b.val * 40 + h.val) * 8 + n) / 320 < 4) : (⟨((b.val * 40 + h.val) * 8 + n) / 320, hlt⟩ : Fin 4) = b :=
  Fin.ext (by show ((b.val * 40 + h.val) * 8 + n) / 320 = b.val; omega)

theorem head_of (b : Fin 4) (h : Fin 40) (n : ℕ) (hn : n < 8) (hlt : ((b.val * 40 + h.val) * 8 + n) / 8 % 40 < 40) : (⟨((b.val * 40 + h.val) * 8 + n) / 8 % 40, hlt⟩ : Fin 40) = h :=
  Fin.ext (by show ((b.val * 40 + h.val) * 8 + n) / 8 % 40 = h.val; omega)

theorem chunk_of (b : Fin 4) (h : Fin 40) (n : ℕ) (hn : n < 8) (hlt : ((b.val * 40 + h.val) * 8 + n) % 8 < 8) : (⟨((b.val * 40 + h.val) * 8 + n) % 8, hlt⟩ : Fin 8) = ⟨n, hn⟩ :=
  Fin.ext (by show ((b.val * 40 + h.val) * 8 + n) % 8 = n; omega)

theorem pay4_at (x : IVec S1280x64 32) (n : Fin 1280) (j : Fin 64) : k0_pay4 (F := Ideal) x (ix2 n j) = x (ix2 n j) := by
  pointwise [k0_pay4]

section Windows

variable (p : IVec S4x40x512 32) (σ : Fin 512 → Fin 512) (b : Fin 4) (h : Fin 40) (hp : ∀ i, p (ix3 b h i) = BitVec.ofNat 32 (σ i).val)
include hp

theorem chunks5_at {α : Type} (x : S4x512x40x96.Idx → α) (n : Fin 8) (j : Fin 64) (d : Fin 96) (i : Fin 512) (hi : i.val = n.val * 64 + j.val) :
    chunks5 x p (ix5 b h n j d) = x (ix4 b (σ i) h d) := by
  have e : ∀ hn : n.val * 64 + j.val < 512, (⟨n.val * 64 + j.val, hn⟩ : Fin 512) = i := fun hn => Fin.ext hi.symm
  pointwise [chunks5]
  rw [e]
  exact takeRows_at x p b h i d (σ i) (hp i)

theorem chunks4_at {α : Type} (x : S4x40x512.Idx → α) (n : Fin 8) (j : Fin 64) (i : Fin 512) (hi : i.val = n.val * 64 + j.val) :
    chunks4 x p (ix4 b h n j) = x (ix3 b h (σ i)) := by
  have e : ∀ hn : n.val * 64 + j.val < 512, (⟨n.val * 64 + j.val, hn⟩ : Fin 512) = i := fun hn => Fin.ext hi.symm
  pointwise [chunks4]
  rw [e]
  exact takeCols_at x p b h i (σ i) (hp i)

theorem own5_at {α : Type} (x : S4x512x40x96.Idx → α) (i : Fin 512) (d : Fin 96) :
    shapeCast S1280x64x96 (chunks5 x p) shapeCasts_S4x40x8x64x96_S1280x64x96 (ix3 (chunk b h ⟨i.val / 64, by omega⟩) (⟨i.val % 64, by omega⟩ : Fin 64) d) = x (ix4 b (σ i) h d) := by
  have e := chunks5_at p σ b h hp x ⟨i.val / 64, by omega⟩ ⟨i.val % 64, by omega⟩ d i (by show i.val = i.val / 64 * 64 + i.val % 64; omega)
  rw [← e]
  pointwise
  exact congr3 (fun b' h' n' => chunks5 x p (ix5 b' h' n' _ d)) (batch_of b h _ (by omega) _) (head_of b h _ (by omega) _) (chunk_of b h _ (by omega) _)

theorem own4_at {α : Type} (x : S4x40x512.Idx → α) (i : Fin 512) :
    shapeCast S1280x64 (chunks4 x p) shapeCasts_S4x40x8x64_S1280x64 (ix2 (chunk b h ⟨i.val / 64, by omega⟩) (⟨i.val % 64, by omega⟩ : Fin 64)) = x (ix3 b h (σ i)) := by
  have e := chunks4_at p σ b h hp x ⟨i.val / 64, by omega⟩ ⟨i.val % 64, by omega⟩ i (by show i.val = i.val / 64 * 64 + i.val % 64; omega)
  rw [← e]
  pointwise
  exact congr3 (fun b' h' n' => chunks4 x p (ix4 b' h' n' _)) (batch_of b h _ (by omega) _) (head_of b h _ (by omega) _) (chunk_of b h _ (by omega) _)

theorem win5_at {α : Type} (x : S4x512x40x96.Idx → α) (i : Fin 512) (k : Fin 192) (d : Fin 96) :
    window5 (chunks5 x p) (ix3 (chunk b h ⟨i.val / 64, by omega⟩) k d) = x (ix4 b (σ (Core.win i k)) h d) := by
  rw [window5_at _ b h ⟨i.val / 64, by omega⟩ _ rfl k d]
  exact chunks5_at p σ b h hp x _ _ d (Core.win i k) rfl

theorem win4_at {α : Type} (x : S4x40x512.Idx → α) (i : Fin 512) (k : Fin 192) :
    window4 (chunks4 x p) (ix2 (chunk b h ⟨i.val / 64, by omega⟩) k) = x (ix3 b h (σ (Core.win i k))) := by
  rw [window4_at _ b h ⟨i.val / 64, by omega⟩ _ rfl k]
  exact chunks4_at p σ b h hp x _ _ (Core.win i k) rfl

omit hp in
theorem ownp_at {α : Type} (x : S4x40x512.Idx → α) (i : Fin 512) :
    shapeCast S1280x64 (shapeCast S4x40x8x64 x shapeCasts_S4x40x512_S4x40x8x64) shapeCasts_S4x40x8x64_S1280x64 (ix2 (chunk b h ⟨i.val / 64, by omega⟩) (⟨i.val % 64, by omega⟩ : Fin 64)) = x (ix3 b h i) := by
  pointwise
  exact congr3 (fun b' h' n' => x (ix3 b' h' n')) (batch_of b h _ (by omega) _) (head_of b h _ (by omega) _) (Fin.ext (by show ((b.val * 40 + h.val) * 8 + i.val / 64) % 8 * 64 + i.val % 64 = i.val; omega))

omit hp in
theorem winp_at {α : Type} (x : S4x40x512.Idx → α) (i : Fin 512) (k : Fin 192) :
    window4 (shapeCast S4x40x8x64 x shapeCasts_S4x40x512_S4x40x8x64) (ix2 (chunk b h ⟨i.val / 64, by omega⟩) k) = x (ix3 b h (Core.win i k)) := by
  rw [window4_at _ b h ⟨i.val / 64, by omega⟩ _ rfl k]
  pointwise
  rfl

end Windows

/-- The reference's result, as a term of its arguments. -/
def result (m : (ℓ : Loc nD τ sig) → Buf (Elt Ideal) ℓ) (c : Dev nD) : FVec Ideal S4x512x3840 .bf16 :=
  finish (k0_pay1 (k0_pay2 (V m c main_v16) (V m c main_v20) (V m c main_v29) (V m c main_v25))
      (k0_pay3 (F := Ideal) (V m c main_v39) (V m c main_v43)) (k0_pay4 (F := Ideal) (V m c main_v34)) (V m c main_v38) (V m c main_v33) (V m c main_v24))
    (m ((c : Thread nD τ).loc main_arg5))

/-- The reference's result at position `σ i`: the attention at sorted position `i` of the head. -/
theorem value_at (m : (ℓ : Loc nD τ sig) → Buf (Elt Ideal) ℓ) (c : Dev nD) (σ : Fin 4 → Fin 40 → Fin 512 → Fin 512) (hσ : ∀ b h, Function.Injective (σ b h))
    (hp : ∀ b h i, m ((c : Thread nD τ).loc main_arg5) (ix3 b h i) = BitVec.ofNat 32 (σ b h i).val) (b : Fin 4) (i : Fin 512) (h : Fin 40) (d : Fin 96) :
    result m c (ix3 b (σ b h i) (⟨h.val * 96 + d.val, by omega⟩ : Fin 3840))
      = Core.attnRef (fun d j => m ((c : Thread nD τ).loc main_arg0) (ix4 b (σ b h j) h d)) (fun j => m ((c : Thread nD τ).loc main_arg2) (ix4 b (σ b h j) h d))
          (fun j => m ((c : Thread nD τ).loc main_arg1) (ix3 b (σ b h j) h)) (fun j => m ((c : Thread nD τ).loc main_arg3) (ix3 b (σ b h j) h))
          (fun j => m ((c : Thread nD τ).loc main_arg4) (ix3 b h (σ b h j))) (fun j => m ((c : Thread nD τ).loc main_arg5) (ix3 b h j)) i := by
  unfold result
  rw [V_q, V_kwin, V_qswin, V_qs, V_pos, V_poswin, V_bk, V_bkwin, V_vswin, V_vwin]
  generalize m ((c : Thread nD τ).loc main_arg0) = a0
  generalize m ((c : Thread nD τ).loc main_arg1) = a1
  generalize m ((c : Thread nD τ).loc main_arg2) = a2
  generalize m ((c : Thread nD τ).loc main_arg3) = a3
  generalize m ((c : Thread nD τ).loc main_arg4) = a4
  generalize m ((c : Thread nD τ).loc main_arg5) = a5 at hp ⊢
  unfold finish
  generalize hy : k0_pay1 (F := Ideal) _ _ _ _ _ _ = y
  have e : ∀ (hh : Fin 40) (dd : Fin 96), hh.val = h.val → dd.val = d.val → put (shapeCast S4x40x512x96 y shapeCasts_S1280x64x96_S4x40x512x96) a5 (ix4 b (σ b h i) hh dd)
      = y (ix3 (chunk b h ⟨i.val / 64, by omega⟩) (⟨i.val % 64, by omega⟩ : Fin 64) d) := by
    intro hh dd h1 h2
    rw [show hh = h from Fin.ext h1, show dd = d from Fin.ext h2, put_at _ a5 σ hp hσ b h i d]
    pointwise
    exact congrArg (fun n => y (ix3 n _ d)) (Fin.ext (by show b.val * 320 + h.val * 8 + i.val / 64 = (b.val * 40 + h.val) * 8 + i.val / 64; omega))
  pointwise
  rw [e h d rfl rfl, ← hy]
  rw [pay1_at _ _ _ _ _ _ _ _ _ (fun k => Core.scoreRef (fun d j => a0 (ix4 b (σ b h j) h d)) (fun j => a1 (ix3 b (σ b h j) h)) (fun j => a4 (ix3 b h (σ b h j))) (fun j => a5 (ix3 b h j)) i (Core.win i k))]
  · unfold Core.attnRef
    simp only [win5_at a5 (σ b h) b h (hp b h), win4_at a5 (σ b h) b h (hp b h)]
    pointwise
  · intro k
    rw [pay2_at, pay3_at]
    simp only [win5_at a5 (σ b h) b h (hp b h), win4_at a5 (σ b h) b h (hp b h), own5_at a5 (σ b h) b h (hp b h), own4_at a5 (σ b h) b h (hp b h), pay4_at, winp_at b h, ownp_at b h]
    rw [Core.select_eq, Core.select_ne]
    pointwise
    rfl

end Cert.ReferenceIdeal.Spec
end
-- ==== Proof.Perm.lean ====
/- What the precondition says: along each head's row, the positions are a permutation. -/
module

public import proofs.«01_k».proof.Proof.Gen.KernelIdeal.Value
public import proofs.«01_k».proof.Defs
public import Idealize.ShloMosaic.Lib.Pointwise

@[expose] public section

set_option maxRecDepth 16384

noncomputable section

namespace Cert.Core

open Idealize.ShloMosaic

/-- A row that sorts to 0, 1, 2, … is a permutation. -/
theorem exists_perm (p : IVec (⟨3, ![4, 40, 512]⟩ : Shape) 32)
    (h : cmpi .eq (Host.sort ⟨3, ![4, 40, 512]⟩ 2 Cert.Pre_is_permutation.comparator_i32_d2 p) (iotaInDim ⟨3, ![4, 40, 512]⟩ 32 2) = fun _ => 1#1) :
    ∃ σ : Fin 4 → Fin 40 → Fin 512 → Fin 512, (∀ b h, Function.Bijective (σ b h)) ∧ ∀ b h i, p (ix3 b h i) = BitVec.ofNat 32 (σ b h i).val := by
  have hex : ∀ (b : Fin 4) (hh : Fin 40) (r : Fin 512), ∃ i : Fin 512, p (ix3 b hh i) = BitVec.ofNat 32 r.val := by
    intro b hh r
    have e := congrFun h (ix3 b hh r)
    have e' : Host.sort ⟨3, ![4, 40, 512]⟩ 2 Cert.Pre_is_permutation.comparator_i32_d2 p (ix3 b hh r) = BitVec.ofNat 32 r.val := by
      by_contra hne
      have : cmpi .eq (Host.sort ⟨3, ![4, 40, 512]⟩ 2 Cert.Pre_is_permutation.comparator_i32_d2 p) (iotaInDim ⟨3, ![4, 40, 512]⟩ 32 2) (ix3 b hh r) = 0#1 := by
        show BitVec.ofBool (decide (_ = _)) = 0#1
        rw [decide_eq_false]
        · rfl
        · exact hne
      rw [this] at e
      exact absurd e (by decide)
    have key : ∀ k : Fin 512, Shape.Idx.along (ix3 b hh r) (2 : Fin 3) k = ix3 b hh k := by
      intro k
      funext a
      fin_cases a <;> rfl
    unfold Host.sort at e'
    rw [dif_pos (by decide)] at e'
    exact ⟨_, (congrArg p (key _).symm).trans e'⟩
  choose f hf using hex
  have hinj : ∀ b h, Function.Injective (f b h) := by
    intro b hh r r' e
    have e2 := (hf b hh r).symm.trans ((congrArg (fun i => p (ix3 b hh i)) e).trans (hf b hh r'))
    have e3 := congrArg BitVec.toNat e2
    rw [BitVec.toNat_ofNat, BitVec.toNat_ofNat] at e3
    exact Fin.ext (by omega)
  have hbij : ∀ b h, Function.Bijective (f b h) := fun b h => Finite.injective_iff_bijective.mp (hinj b h)
  refine ⟨fun b h => (Equiv.ofBijective (f b h) (hbij b h)).symm, fun b h => Equiv.bijective _, fun b h i => ?_⟩
  rw [← hf b h]
  exact congrArg (fun i => p (ix3 b h i)) (Equiv.ofBijective_apply_symm_apply (f b h) (hbij b h) i).symm

end Cert.Core
end
-- ==== Proof.lean ====
/- The proof of the certificate's claims: the three programs run and leave the machine quiet, the kernel at exact values
   differs from the printed one in four named constants only, and it computes the reference's result. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_is_permutation
public import proofs.«01_k».proof.Proof.KOut
public import proofs.«01_k».proof.Proof.RValue
public import proofs.«01_k».proof.Proof.Perm
public import Idealize.ShloMosaic.Adequacy
public import Idealize.ShloMosaic.Init

@[expose] public section

noncomputable section

namespace Cert.Proof

open Idealize.ShloMosaic Idealize.ShloMosaic.TcCoe Idealize.SL.Sem

/-- From memories that agree on the arguments, the kernel's result array is the reference's. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpre : cmpi .eq (Host.sort ⟨3, ![4, 40, 512]⟩ 2 Cert.Pre_is_permutation.comparator_i32_d2 (m ((c.tc : Thread Cert.KernelIdeal.nD Cert.KernelIdeal.τ).loc Cert.KernelIdeal.main_arg5)))
      (iotaInDim ⟨3, ![4, 40, 512]⟩ 32 2) = fun _ => 1#1)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Spec.result m' c = (Cert.KernelIdeal.Gen.dats m 0 c).arrAt 6 Cert.KernelIdeal.cfg0.N := by
  obtain ⟨σ, hσ, hp⟩ := Cert.Core.exists_perm _ hpre
  have hinj : ∀ b h, Function.Injective (σ b h) := fun b h => (hσ b h).injective
  funext y
  obtain ⟨b, r, e, rfl⟩ : ∃ (b : Fin 4) (r : Fin 512) (e : Fin 3840), y = ix3 b r e := ⟨y 0, y 1, y 2, eq_ix3 y⟩
  obtain ⟨h, d, rfl⟩ : ∃ (h : Fin 40) (d : Fin 96), e = (⟨h.val * 96 + d.val, by omega⟩ : Fin 3840) :=
    ⟨⟨e.val / 96, by omega⟩, ⟨e.val % 96, by omega⟩, Fin.ext (by show e.val = e.val / 96 * 96 + e.val % 96; omega)⟩
  obtain ⟨i, rfl⟩ := (hσ b h).surjective r
  have hp' : ∀ b h i, m' ((c.tc : Thread Cert.ReferenceIdeal.nD Cert.ReferenceIdeal.τ).loc Cert.ReferenceIdeal.main_arg5) (ix3 b h i) = BitVec.ofNat 32 (σ b h i).val := by
    intro b h i
    rw [h5]
    exact hp b h i
  have hP : Function.Injective fun j => m' ((c.tc : Thread Cert.ReferenceIdeal.nD Cert.ReferenceIdeal.τ).loc Cert.ReferenceIdeal.main_arg5) (ix3 b h j) := by
    intro j j' hj
    have hj' := congrArg BitVec.toNat ((hp' b h j).symm.trans (hj.trans (hp' b h j')))
    rw [BitVec.toNat_ofNat, BitVec.toNat_ofNat] at hj'
    exact hinj b h (Fin.ext (by omega))
  have hr := Cert.ReferenceIdeal.Spec.value_at m' c σ hinj hp' b i h d
  have hk := Cert.KernelIdeal.Spec.value_at m c σ hinj hp b i h d
  rw [← Cert.Core.attn_eq _ _ _ _ _ _ hP] at hr
  rw [h0, h1, h2, h3, h4] at hr
  exact hr.trans hk.symm

theorem algebraic : @Cert.algebraic_KernelIdeal_ReferenceIdeal_pre_is_permutation Cert.KernelIdeal.Gen.facts Cert.ReferenceIdeal.Gen.facts Cert.Pre_is_permutation.Gen.facts := by
  intro m g m' g' hpre hagree
  refine ⟨fun c => (Cert.KernelIdeal.Gen.dats m 0 c).arrAt 6 Cert.KernelIdeal.cfg0.N, Cert.KernelIdeal.Value.run_blocks m g, ?_⟩
  refine (θ_run _ _ _).mono (fun r hr c => ⟨?_, hr.2 c⟩) (θ_run_and (Cert.ReferenceIdeal.Spec.run m' g') (Cert.ReferenceIdeal.Gen.unchanged m' g'))
  obtain ⟨h0, h1, h2, h3, h4, h5⟩ := hagree c
  exact (hr.1 c).trans (results_eq m m' c (hpre c) h0 h1 h2 h3 h4 h5)

theorem claim : Cert.Claim :=
  ⟨Cert.Kernel.Gen.facts, Cert.KernelIdeal.Gen.facts, Cert.ReferenceIdeal.Gen.facts, Cert.Pre_is_permutation.Gen.facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Gen.frame m ρ,
    fun m ρ _ => Cert.ReferenceIdeal.Gen.frame m ρ,
    ⟨IdealRules.named_const.statement Cert.KernelIdeal.κ "inv_dh" .f32 0x3C2AAAAB#32 ((1 / 96 : ℝ) : EReal) rfl,
     IdealRules.named_const.statement Cert.KernelIdeal.κ "log2_e" .f32 0x3FB8AA3B#32 (((Real.log 2)⁻¹ : ℝ) : EReal) rfl,
     IdealRules.named_const.statement Cert.KernelIdeal.κ "bucket_mask" .f32 0xCEABFB8F#32 ⊥ rfl,
     IdealRules.named_const.statement Cert.KernelIdeal.κ "self_mask" .f32 0xC80CE360#32 (((-100000) * (Real.log 2)⁻¹ : ℝ) : EReal) rfl⟩,
    algebraic⟩

end Cert.Proof

end
